-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x4096 : Shape := ⟨2, ![2048, 4096]⟩
abbrev S4096x8192 : Shape := ⟨2, ![4096, 8192]⟩
abbrev S_ : Shape := ⟨0, ![]⟩

class Facts : Prop where
  bcast_S_S2048x4096 : S_.BroadcastsInDim S2048x4096 (![] : Fin 0 → Fin S2048x4096.rank)
  bcast_S_S4096x8192 : S_.BroadcastsInDim S4096x8192 (![] : Fin 0 → Fin S4096x8192.rank)

variable [Facts]

def fn {F : FTy → Type} [FloatOps F] (main_arg0 : FVec F S2048x4096 .f32) (main_arg1 : FVec F S4096x8192 .f32) : IVec S2048x4096 1 × IVec S4096x8192 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S4096x8192 .f32 := Host.absf main_arg1
  let main_cst_0 : FVec F S_ .f32 := constant S_ .f32 0x7F800000#32
  let main_v4 : FVec F S4096x8192 .f32 := broadcastInDim S4096x8192 ![] bcast_S_S4096x8192 main_cst_0
  let main_v5 : IVec S4096x8192 1 := cmpf .olt main_v3 main_v4
  (main_v2, main_v5)
-- ==== Pre_finite_ReferenceIdeal.lean ====
abbrev S2048x4096 : Shape := ⟨2, ![2048, 4096]⟩
abbrev S4096x16384 : Shape := ⟨2, ![4096, 16384]⟩
abbrev S_ : Shape := ⟨0, ![]⟩

class Facts : Prop where
  bcast_S_S2048x4096 : S_.BroadcastsInDim S2048x4096 (![] : Fin 0 → Fin S2048x4096.rank)
  bcast_S_S4096x16384 : S_.BroadcastsInDim S4096x16384 (![] : Fin 0 → Fin S4096x16384.rank)

variable [Facts]

def fn {F : FTy → Type} [FloatOps F] (main_arg0 : FVec F S2048x4096 .f32) (main_arg1 : FVec F S4096x16384 .f32) : IVec S2048x4096 1 × IVec S4096x16384 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S4096x16384 .f32 := Host.absf main_arg1
  let main_cst_0 : FVec F S_ .f32 := constant S_ .f32 0x7F800000#32
  let main_v4 : FVec F S4096x16384 .f32 := broadcastInDim S4096x16384 ![] bcast_S_S4096x16384 main_cst_0
  let main_v5 : IVec S4096x16384 1 := cmpf .olt main_v3 main_v4
  (main_v2, main_v5)
-- ==== Kernel.lean ====
abbrev S2048x4096 : Shape := ⟨2, ![2048, 4096]⟩
abbrev S4096x8192 : Shape := ⟨2, ![4096, 8192]⟩
abbrev S2048x16384 : Shape := ⟨2, ![2048, 16384]⟩
abbrev S2x8x2048x1024 : Shape := ⟨4, ![2, 8, 2048, 1024]⟩
abbrev S2x4096x512 : Shape := ⟨3, ![2, 4096, 512]⟩
abbrev S2048x1024 : Shape := ⟨2, ![2048, 1024]⟩
abbrev S2048x1 : Shape := ⟨2, ![2048, 1]⟩
abbrev S8 : Shape := ⟨1, ![8]⟩
abbrev S_ : Shape := ⟨0, ![]⟩
abbrev S2 : Shape := ⟨1, ![2]⟩
abbrev S1 : Shape := ⟨1, ![1]⟩
abbrev S1x4096x512 : Shape := ⟨3, ![1, 4096, 512]⟩
abbrev S4096x512 : Shape := ⟨2, ![4096, 512]⟩
abbrev S2048x512 : Shape := ⟨2, ![2048, 512]⟩
abbrev S2048 : Shape := ⟨1, ![2048]⟩
abbrev S1x1x2048x1024 : Shape := ⟨4, ![1, 1, 2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S4096x8192, .f32⟩
  | .hbm, ⟨2, _⟩ => ⟨S2048x16384, .f32⟩
  | .hbm, ⟨3, _⟩ => ⟨S2x8x2048x1024, .f32⟩
  | .local _ .vmem, ⟨0, _⟩ => ⟨S2048x4096, .f32⟩
  | .local _ .vmem, ⟨1, _⟩ => ⟨S2x4096x512, .f32⟩
  | .local _ .vmem, ⟨2, _⟩ => ⟨S2048x1024, .f32⟩
  | .local _ .vmem, ⟨3, _⟩ => ⟨S2048x1, .f32⟩
  | .local _ .vmem, ⟨4, _⟩ => ⟨S2048x1, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_6 : BitVec 32 := 4#32
  let v13 : BitVec 32 := Scalar.muli v9 c4_i32_6
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v15 : BitVec 32 := Scalar.muli v5 c2_i32_7
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v17 : BitVec 32 := Scalar.muli v8 c1_i32_8
  let v18 : BitVec 32 := Scalar.addi v16 v17
  v18.toNat
@[reducible] def k0_t1_loop : Scf.Loop 32 :=
  let c0_i32_17 : BitVec 32 := 0#32
  let c16_i32 : BitVec 32 := 16#32
  let v28 : BitVec 32 := Scalar.addi c0_i32_17 c16_i32
  let c1_i32_18 : BitVec 32 := 1#32
  ⟨c0_i32_17, v28, c1_i32_18⟩
def k0_cond1 (k0_t1 : Fin k0_t1_loop.trips) : BitVec 1 :=
  let c0_i32_17 : BitVec 32 := 0#32
  let c1_i32_18 : BitVec 32 := 1#32
  let arg14 : BitVec 32 := Scf.iv c0_i32_17 c1_i32_18 k0_t1
  let c1_i32_42 : BitVec 32 := 1#32
  let v49 : BitVec 32 := Scalar.addi arg14 c1_i32_42
  let c16_i32_43 : BitVec 32 := 16#32
  let v50 : BitVec 1 := Scalar.cmpi .slt v49 c16_i32_43
  let v51 : BitVec 32 := Scalar.extui v50
  let c0_i32_44 : BitVec 32 := 0#32
  let v52 : BitVec 1 := Scalar.cmpi .ne v51 c0_i32_44
  v52

def k0_off1 (k0_t1 : Fin k0_t1_loop.trips) : Fin 1 → Nat :=
  let c1_i32_75 : BitVec 32 := 1#32
  let c0_i32_17 : BitVec 32 := 0#32
  let c1_i32_18 : BitVec 32 := 1#32
  let arg14 : BitVec 32 := Scf.iv c0_i32_17 c1_i32_18 k0_t1
  let c2_i32_41 : BitVec 32 := 2#32
  let v48 : BitVec 32 := Scalar.remsi arg14 c2_i32_41
  let v102 : BitVec 32 := Scalar.subi c1_i32_75 v48
  ![v102.toNat]
def k0_off2 (k0_t1 : Fin k0_t1_loop.trips) : Fin 3 → Nat :=
  let c1_i32_75 : BitVec 32 := 1#32
  let c0_i32_17 : BitVec 32 := 0#32
  let c1_i32_18 : BitVec 32 := 1#32
  let arg14 : BitVec 32 := Scf.iv c0_i32_17 c1_i32_18 k0_t1
  let c2_i32_41 : BitVec 32 := 2#32
  let v48 : BitVec 32 := Scalar.remsi arg14 c2_i32_41
  let v102 : BitVec 32 := Scalar.subi c1_i32_75 v48
  let c0_i32_77 : BitVec 32 := 0#32
  let c0_i32_78 : BitVec 32 := 0#32
  ![v102.toNat, 0, 0]
def k0_off3 (k0_t1 : Fin k0_t1_loop.trips) : Fin 2 → Nat :=
  let c0_i32_79 : BitVec 32 := 0#32
  let c0_i32_17 : BitVec 32 := 0#32
  let c1_i32_18 : BitVec 32 := 1#32
  let arg14 : BitVec 32 := Scf.iv c0_i32_17 c1_i32_18 k0_t1
  let c1_i32_74 : BitVec 32 := 1#32
  let v101 : BitVec 32 := Scalar.addi arg14 c1_i32_74
  let c512_i32_76 : BitVec 32 := 512#32
  let v103 : BitVec 32 := Scalar.muli v101 c512_i32_76
  ![0, v103.toNat]
def k0_off4 (k0_t1 : Fin k0_t1_loop.trips) : Fin 1 → Nat :=
  let c0_i32_17 : BitVec 32 := 0#32
  let c1_i32_18 : BitVec 32 := 1#32
  let arg14 : BitVec 32 := Scf.iv c0_i32_17 c1_i32_18 k0_t1
  let c2_i32_41 : BitVec 32 := 2#32
  let v48 : BitVec 32 := Scalar.remsi arg14 c2_i32_41
  ![v48.toNat]
def k0_off5 (k0_t1 : Fin k0_t1_loop.trips) : Fin 3 → Nat :=
  let c0_i32_17 : BitVec 32 := 0#32
  let c1_i32_18 : BitVec 32 := 1#32
  let arg14 : BitVec 32 := Scf.iv c0_i32_17 c1_i32_18 k0_t1
  let c2_i32_41 : BitVec 32 := 2#32
  let v48 : BitVec 32 := Scalar.remsi arg14 c2_i32_41
  let c0_i32_45 : BitVec 32 := 0#32
  let c0_i32_46 : BitVec 32 := 0#32
  ![v48.toNat, 0, 0]
def k0_off6 (k0_t1 : Fin k0_t1_loop.trips) : Fin 2 → Nat :=
  let c0_i32_47 : BitVec 32 := 0#32
  let c0_i32_17 : BitVec 32 := 0#32
  let c1_i32_18 : BitVec 32 := 1#32
  let arg14 : BitVec 32 := Scf.iv c0_i32_17 c1_i32_18 k0_t1
  let c512_i32 : BitVec 32 := 512#32
  let v53 : BitVec 32 := Scalar.muli arg14 c512_i32
  ![0, v53.toNat]
def k0_off7 (k0_t1 : Fin k0_t1_loop.trips) : Fin 3 → Nat :=
  let c0_i32_17 : BitVec 32 := 0#32
  let c1_i32_18 : BitVec 32 := 1#32
  let arg14 : BitVec 32 := Scf.iv c0_i32_17 c1_i32_18 k0_t1
  let c2_i32_41 : BitVec 32 := 2#32
  let v48 : BitVec 32 := Scalar.remsi arg14 c2_i32_41
  let v61 : Index := Scalar.indexCast v48
  let c0_50 : Index := 0#32
  let c0_51 : Index := 0#32
  ![v61.toNat, 0, 0]
def k0_off8 (k0_t1 : Fin k0_t1_loop.trips) : Fin 2 → Nat :=
  let c0_65 : Index := 0#32
  let c0_i32_17 : BitVec 32 := 0#32
  let c1_i32_18 : BitVec 32 := 1#32
  let arg14 : BitVec 32 := Scf.iv c0_i32_17 c1_i32_18 k0_t1
  let c2_i32_58 : BitVec 32 := 2#32
  let c0_i32_59 : BitVec 32 := 0#32
  let v73 : BitVec 1 := Scalar.cmpi .eq c2_i32_58 c0_i32_59
  let c1_i32_60 : BitVec 32 := 1#32
  let v74 : BitVec 32 := Scalar.select v73 c1_i32_60 c2_i32_58
  let v75 : BitVec 32 := Scalar.remsi arg14 v74
  let c0_i32_62 : BitVec 32 := 0#32
  let v77 : BitVec 1 := Scalar.cmpi .slt v75 c0_i32_62
  let c0_i32_63 : BitVec 32 := 0#32
  let v78 : BitVec 1 := Scalar.cmpi .slt v74 c0_i32_63
  let v79 : BitVec 1 := Scalar.xori v77 v78
  let c0_i32_61 : BitVec 32 := 0#32
  let v76 : BitVec 1 := Scalar.cmpi .ne v75 c0_i32_61
  let v80 : BitVec 1 := Scalar.andi v79 v76
  let v81 : BitVec 32 := Scalar.addi v75 v74
  let v82 : BitVec 32 := Scalar.select v80 v81 v75
  let c512_i32_64 : BitVec 32 := 512#32
  let v83 : BitVec 32 := Scalar.muli v82 c512_i32_64
  let v84 : Index := Scalar.indexCast v83
  ![0, v84.toNat]
def k0_cond2 (k0_t1 : Fin k0_t1_loop.trips) : BitVec 1 :=
  let c0_i32_17 : BitVec 32 := 0#32
  let c1_i32_18 : BitVec 32 := 1#32
  let arg14 : BitVec 32 := Scf.iv c0_i32_17 c1_i32_18 k0_t1
  let c2_i32_66 : BitVec 32 := 2#32
  let c0_i32_67 : BitVec 32 := 0#32
  let v88 : BitVec 1 := Scalar.cmpi .eq c2_i32_66 c0_i32_67
  let c1_i32_68 : BitVec 32 := 1#32
  let v89 : BitVec 32 := Scalar.select v88 c1_i32_68 c2_i32_66
  let v90 : BitVec 32 := Scalar.remsi arg14 v89
  let c0_i32_70 : BitVec 32 := 0#32
  let v92 : BitVec 1 := Scalar.cmpi .slt v90 c0_i32_70
  let c0_i32_71 : BitVec 32 := 0#32
  let v93 : BitVec 1 := Scalar.cmpi .slt v89 c0_i32_71
  let v94 : BitVec 1 := Scalar.xori v92 v93
  let c0_i32_69 : BitVec 32 := 0#32
  let v91 : BitVec 1 := Scalar.cmpi .ne v90 c0_i32_69
  let v95 : BitVec 1 := Scalar.andi v94 v91
  let v96 : BitVec 32 := Scalar.addi v90 v89
  let v97 : BitVec 32 := Scalar.select v95 v96 v90
  let c1_i32_72 : BitVec 32 := 1#32
  let v98 : BitVec 1 := Scalar.cmpi .eq v97 c1_i32_72
  let v99 : BitVec 32 := Scalar.extui v98
  let c0_i32_73 : BitVec 32 := 0#32
  let v100 : BitVec 1 := Scalar.cmpi .ne v99 c0_i32_73
  v100

def k0_off9 (k0_t1 : Fin k0_t1_loop.trips) : Fin 4 → Nat :=
  let c0_i32_81 : BitVec 32 := 0#32
  let c0_i32_17 : BitVec 32 := 0#32
  let c1_i32_18 : BitVec 32 := 1#32
  let arg14 : BitVec 32 := Scf.iv c0_i32_17 c1_i32_18 k0_t1
  let c0_i32_75 : BitVec 32 := 0#32
  let v102 : BitVec 1 := Scalar.cmpi .sgt arg14 c0_i32_75
  let v103 : BitVec 32 := Scalar.extui v102
  let c0_i32_76 : BitVec 32 := 0#32
  let v104 : BitVec 1 := Scalar.cmpi .slt arg14 c0_i32_76
  let v105 : BitVec 32 := Scalar.extui v104
  let v106 : BitVec 32 := Scalar.subi v103 v105
  let c2_i32_74 : BitVec 32 := 2#32
  let c0_i32_77 : BitVec 32 := 0#32
  let v107 : BitVec 1 := Scalar.cmpi .sgt c2_i32_74 c0_i32_77
  let v108 : BitVec 32 := Scalar.extui v107
  let c0_i32_78 : BitVec 32 := 0#32
  let v109 : BitVec 1 := Scalar.cmpi .slt c2_i32_74 c0_i32_78
  let v110 : BitVec 32 := Scalar.extui v109
  let v111 : BitVec 32 := Scalar.subi v108 v110
  let v112 : BitVec 1 := Scalar.cmpi .ne v106 v111
  let v113 : BitVec 32 := Scalar.remsi arg14 c2_i32_74
  let c0_i32_79 : BitVec 32 := 0#32
  let v114 : BitVec 1 := Scalar.cmpi .ne v113 c0_i32_79
  let v115 : BitVec 1 := Scalar.andi v112 v114
  let v101 : BitVec 32 := Scalar.divsi arg14 c2_i32_74
  let c1_i32_80 : BitVec 32 := 1#32
  let v116 : BitVec 32 := Scalar.subi v101 c1_i32_80
  let v117 : BitVec 32 := Scalar.select v115 v116 v101
  let c0_i32_82 : BitVec 32 := 0#32
  let c0_i32_83 : BitVec 32 := 0#32
  ![0, v117.toNat, 0, 0]
def k0_off10 (k0_t1 : Fin k0_t1_loop.trips) : Fin 1 → Nat :=
  let c0_i32_17 : BitVec 32 := 0#32
  let c1_i32_18 : BitVec 32 := 1#32
  let arg14 : BitVec 32 := Scf.iv c0_i32_17 c1_i32_18 k0_t1
  let c0_i32_75 : BitVec 32 := 0#32
  let v102 : BitVec 1 := Scalar.cmpi .sgt arg14 c0_i32_75
  let v103 : BitVec 32 := Scalar.extui v102
  let c0_i32_76 : BitVec 32 := 0#32
  let v104 : BitVec 1 := Scalar.cmpi .slt arg14 c0_i32_76
  let v105 : BitVec 32 := Scalar.extui v104
  let v106 : BitVec 32 := Scalar.subi v103 v105
  let c2_i32_74 : BitVec 32 := 2#32
  let c0_i32_77 : BitVec 32 := 0#32
  let v107 : BitVec 1 := Scalar.cmpi .sgt c2_i32_74 c0_i32_77
  let v108 : BitVec 32 := Scalar.extui v107
  let c0_i32_78 : BitVec 32 := 0#32
  let v109 : BitVec 1 := Scalar.cmpi .slt c2_i32_74 c0_i32_78
  let v110 : BitVec 32 := Scalar.extui v109
  let v111 : BitVec 32 := Scalar.subi v108 v110
  let v112 : BitVec 1 := Scalar.cmpi .ne v106 v111
  let v113 : BitVec 32 := Scalar.remsi arg14 c2_i32_74
  let c0_i32_79 : BitVec 32 := 0#32
  let v114 : BitVec 1 := Scalar.cmpi .ne v113 c0_i32_79
  let v115 : BitVec 1 := Scalar.andi v112 v114
  let v101 : BitVec 32 := Scalar.divsi arg14 c2_i32_74
  let c1_i32_80 : BitVec 32 := 1#32
  let v116 : BitVec 32 := Scalar.subi v101 c1_i32_80
  let v117 : BitVec 32 := Scalar.select v115 v116 v101
  ![v117.toNat]
def k0_off11 (k0_t1 : Fin k0_t1_loop.trips) : Fin 4 → Nat :=
  let c1_i32_88 : BitVec 32 := 1#32
  let c0_i32_17 : BitVec 32 := 0#32
  let c1_i32_18 : BitVec 32 := 1#32
  let arg14 : BitVec 32 := Scf.iv c0_i32_17 c1_i32_18 k0_t1
  let c0_i32_75 : BitVec 32 := 0#32
  let v102 : BitVec 1 := Scalar.cmpi .sgt arg14 c0_i32_75
  let v103 : BitVec 32 := Scalar.extui v102
  let c0_i32_76 : BitVec 32 := 0#32
  let v104 : BitVec 1 := Scalar.cmpi .slt arg14 c0_i32_76
  let v105 : BitVec 32 := Scalar.extui v104
  let v106 : BitVec 32 := Scalar.subi v103 v105
  let c2_i32_74 : BitVec 32 := 2#32
  let c0_i32_77 : BitVec 32 := 0#32
  let v107 : BitVec 1 := Scalar.cmpi .sgt c2_i32_74 c0_i32_77
  let v108 : BitVec 32 := Scalar.extui v107
  let c0_i32_78 : BitVec 32 := 0#32
  let v109 : BitVec 1 := Scalar.cmpi .slt c2_i32_74 c0_i32_78
  let v110 : BitVec 32 := Scalar.extui v109
  let v111 : BitVec 32 := Scalar.subi v108 v110
  let v112 : BitVec 1 := Scalar.cmpi .ne v106 v111
  let v113 : BitVec 32 := Scalar.remsi arg14 c2_i32_74
  let c0_i32_79 : BitVec 32 := 0#32
  let v114 : BitVec 1 := Scalar.cmpi .ne v113 c0_i32_79
  let v115 : BitVec 1 := Scalar.andi v112 v114
  let v101 : BitVec 32 := Scalar.divsi arg14 c2_i32_74
  let c1_i32_80 : BitVec 32 := 1#32
  let v116 : BitVec 32 := Scalar.subi v101 c1_i32_80
  let v117 : BitVec 32 := Scalar.select v115 v116 v101
  let c0_i32_93 : BitVec 32 := 0#32
  let c0_i32_94 : BitVec 32 := 0#32
  ![1, v117.toNat, 0, 0]
def k0_dev2 (d0 : Dev nD) : Nat :=
  let c0_i32_90 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_89 : BitVec 32 := 4#32
  let v122 : BitVec 32 := Scalar.muli v9 c4_i32_89
  let v123 : BitVec 32 := Scalar.addi c0_i32_90 v122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v124 : BitVec 32 := Scalar.muli v5 c2_i32_91
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v126 : BitVec 32 := Scalar.muli v8 c1_i32_92
  let v127 : BitVec 32 := Scalar.addi v125 v126
  v127.toNat
def k0_dev3 (d0 : Dev nD) : Nat :=
  let c0_i32_21 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_20 : BitVec 32 := 4#32
  let v29 : BitVec 32 := Scalar.muli v9 c4_i32_20
  let v30 : BitVec 32 := Scalar.addi c0_i32_21 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v31 : BitVec 32 := Scalar.muli v5 c2_i32_22
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v33 : BitVec 32 := Scalar.muli v8 c1_i32_23
  let v34 : BitVec 32 := Scalar.addi v32 v33
  v34.toNat
@[reducible] def k0_t2_loop : Scf.Loop 32 :=
  let c0_i32_34 : BitVec 32 := 0#32
  let c8_i32 : BitVec 32 := 8#32
  let v46 : BitVec 32 := Scalar.addi c0_i32_34 c8_i32
  let c1_i32_35 : BitVec 32 := 1#32
  ⟨c0_i32_34, v46, c1_i32_35⟩
def k0_off12 (k0_t2 : Fin k0_t2_loop.trips) : Fin 4 → Nat :=
  let c0_i32_41 : BitVec 32 := 0#32
  let c0_i32_34 : BitVec 32 := 0#32
  let c1_i32_35 : BitVec 32 := 1#32
  let arg14 : BitVec 32 := Scf.iv c0_i32_34 c1_i32_35 k0_t2
  let c0_i32_42 : BitVec 32 := 0#32
  let c0_i32_43 : BitVec 32 := 0#32
  ![0, arg14.toNat, 0, 0]
def k0_off13 (d0 : Dev nD) (k0_t2 : Fin k0_t2_loop.trips) : Fin 2 → Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8192_i32 : BitVec 32 := 8192#32
  let v10 : BitVec 32 := Scalar.muli v2 c8192_i32
  let c0_i32_34 : BitVec 32 := 0#32
  let c1_i32_35 : BitVec 32 := 1#32
  let arg14 : BitVec 32 := Scf.iv c0_i32_34 c1_i32_35 k0_t2
  let c1024_i32 : BitVec 32 := 1024#32
  let v58 : BitVec 32 := Scalar.muli arg14 c1024_i32
  let v59 : BitVec 32 := Scalar.addi v10 v58
  ![0, v59.toNat]
def k0_off14 (k0_t2 : Fin k0_t2_loop.trips) : Fin 1 → Nat :=
  let c0_i32_34 : BitVec 32 := 0#32
  let c1_i32_35 : BitVec 32 := 1#32
  let arg14 : BitVec 32 := Scf.iv c0_i32_34 c1_i32_35 k0_t2
  ![arg14.toNat]
def k0_off15 (k0_t2 : Fin k0_t2_loop.trips) : Fin 4 → Nat :=
  let c1_i32_54 : BitVec 32 := 1#32
  let c0_i32_34 : BitVec 32 := 0#32
  let c1_i32_35 : BitVec 32 := 1#32
  let arg14 : BitVec 32 := Scf.iv c0_i32_34 c1_i32_35 k0_t2
  let c0_i32_59 : BitVec 32 := 0#32
  let c0_i32_60 : BitVec 32 := 0#32
  ![1, arg14.toNat, 0, 0]
def k0_off16 (d0 : Dev nD) (k0_t2 : Fin k0_t2_loop.trips) : Fin 2 → Nat :=
  let c0_i32_74 : BitVec 32 := 0#32
  let c8192_i32_4 : BitVec 32 := 8192#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8192_i32 : BitVec 32 := 8192#32
  let v10 : BitVec 32 := Scalar.muli v2 c8192_i32
  let v11 : BitVec 32 := Scalar.subi c8192_i32_4 v10
  let c0_i32_34 : BitVec 32 := 0#32
  let c1_i32_35 : BitVec 32 := 1#32
  let arg14 : BitVec 32 := Scf.iv c0_i32_34 c1_i32_35 k0_t2
  let c1024_i32_73 : BitVec 32 := 1024#32
  let v84 : BitVec 32 := Scalar.muli arg14 c1024_i32_73
  let v85 : BitVec 32 := Scalar.addi v11 v84
  ![0, v85.toNat]
@[reducible] def k0_t3_loop : Scf.Loop 32 :=
  let c0_i32_37 : BitVec 32 := 0#32
  let c8_i32_38 : BitVec 32 := 8#32
  let v47 : BitVec 32 := Scalar.addi c0_i32_37 c8_i32_38
  let c1_i32_39 : BitVec 32 := 1#32
  ⟨c0_i32_37, v47, c1_i32_39⟩
def k0_off17 (k0_t3 : Fin k0_t3_loop.trips) : Fin 1 → Nat :=
  let c0_i32_37 : BitVec 32 := 0#32
  let c1_i32_39 : BitVec 32 := 1#32
  let arg14 : BitVec 32 := Scf.iv c0_i32_37 c1_i32_39 k0_t3
  ![arg14.toNat]
def k0_off18 (k0_t3 : Fin k0_t3_loop.trips) : Fin 4 → Nat :=
  let c0_i32_42 : BitVec 32 := 0#32
  let c0_i32_37 : BitVec 32 := 0#32
  let c1_i32_39 : BitVec 32 := 1#32
  let arg14 : BitVec 32 := Scf.iv c0_i32_37 c1_i32_39 k0_t3
  let c0_i32_44 : BitVec 32 := 0#32
  let c0_i32_45 : BitVec 32 := 0#32
  ![0, arg14.toNat, 0, 0]
def k0_off19 (k0_t3 : Fin k0_t3_loop.trips) : Fin 4 → Nat :=
  let c1_i32_41 : BitVec 32 := 1#32
  let c0_i32_37 : BitVec 32 := 0#32
  let c1_i32_39 : BitVec 32 := 1#32
  let arg14 : BitVec 32 := Scf.iv c0_i32_37 c1_i32_39 k0_t3
  let c0_i32_46 : BitVec 32 := 0#32
  let c0_i32_47 : BitVec 32 := 0#32
  ![1, arg14.toNat, 0, 0]
abbrev stage0_0 : Fin 1 → Memref sig .tc .vmem S2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x4096 : Shape := ⟨2, ![2048, 4096]⟩
abbrev S4096x16384 : Shape := ⟨2, ![4096, 16384]⟩
abbrev S2048x16384 : Shape := ⟨2, ![2048, 16384]⟩
abbrev S_ : Shape := ⟨0, ![]⟩
abbrev S2048 : Shape := ⟨1, ![2048]⟩
abbrev S2048x1 : Shape := ⟨2, ![2048, 1]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x16384, .f32⟩
  | .hbm, ⟨2, _⟩ => ⟨S2048x16384, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x16384, .f32⟩
  | .hbm, ⟨7, _⟩ => ⟨S2048x16384, .f32⟩
  | .hbm, ⟨8, _⟩ => ⟨S2048x16384, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S2048x16384, .f32⟩
  | .hbm, ⟨13, _⟩ => ⟨S2048x16384, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Rules.lean ====
/-
  The steps of a core in the words its phases are told in: a memref held at known contents (`owns`),
  a memref held to be overwritten (`held`), local copies that lend their source, copies to another
  device between two memrefs held at known contents. Nothing here is about the kernel.
-/
module

public import Idealize.ShloMosaic.Lib.Memref
public import Idealize.ShloMosaic.Lib.MemrefSat
public import Idealize.ShloMosaic.Lib.Transfers
public import Idealize.ShloMosaic.Lib.Rounds

@[expose] public section

noncomputable section

namespace Softmax

open Idealize.ShloMosaic
open Idealize.SL
open Idealize.SL.BI (sProp Storable)
open scoped Idealize.SL.BI
open Idealize.SL.BI.BIBase Idealize.SL.BI.Laws Idealize.SL.ProofMode Idealize.SL.Sem
open Idealize.SL.RA
open Transfers (Flight)
open Idealize.SL.ExclCount (Counters)

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The memref's elements, held outright at contents nobody asks about. -/
def held (c : Thread nD τ) {sp : Space} {sh : Shape} {e : EltTy} (m : Memref sig c.2.kind sp sh e) : sProp 𝕄 :=
  iprop(∃ X, owns c m fullShare X)

instance held_storable (c : Thread nD τ) {sp : Space} {sh : Shape} {e : EltTy} (m : Memref sig c.2.kind sp sh e) :
    BI.Storable (upEmb : UEmb _ 𝕄) (held c m) := by
  unfold held; infer_instance

theorem owns_held (c : Thread nD τ) {sp : Space} {sh : Shape} {e : EltTy} (m : Memref sig c.2.kind sp sh e)
    (X : sh.Idx → Val e) : (owns c m fullShare X : sProp 𝕄) ⊢ held c m := by
  unfold held; iintro H; iexists X; iexact H

/-- Held elements are a points-to at some contents of their buffer. -/
theorem held_pts (c : Thread nD τ) {sp : Space} {sh : Shape} {e : EltTy} (m : Memref sig c.2.kind sp sh e) :
    (held c m : sProp 𝕄) ⊢ iprop(∃ f, m.view.loc c ↦[m.view.set]{fullShare} f) := by
  unfold held owns
  iintro ⟨%X, %f, -, H⟩; iexists f; iexact H

/-- What a memref holds is a points-to of its buffer, at contents it reads so. -/
theorem owns_pts (c : Thread nD τ) {sp : Space} {sh : Shape} {e : EltTy} (m : Memref sig c.2.kind sp sh e)
    {q : PosShare TreeShare} {X : sh.Idx → Val e} :
    (owns c m q X : sProp 𝕄) ⊢ iprop(∃ f, ⌜m.view.read Val f = X⌝ ∗ (m.view.loc c ↦[m.view.set]{q} f)) := by
  unfold owns; exact .rfl

/-- The indices of `m`'s slice `r` squeezed to `s'`, as those of the slice. -/
def unsq {s s' : Shape} {α : Type} (h : s.Squeezes s') (Y : s'.Idx → α) : s.Idx → α :=
  fun i => Y ((Shape.reshapeEquiv h.numel_eq).symm i)

section steps

variable (EC : UEmb Counters (MT nD τ sig Ix Val Name U Lvl))
variable [Preorder Lvl] {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}

/-- What is beside a flight can be made to come back with it. -/
theorem flight_frame {sm : SemLoc sig} {ι : Ix} {N : ℕ} {D P : sProp 𝕄} :
    iprop(Flight EC c sm ι N D ∗ P) ⊢ Flight EC c sm ι N iprop(D ∗ P) := by
  unfold Flight
  iintro ⟨⟨⟨%R, HR, %hcap, %hpeek⟩, Hcred⟩, HP⟩
  isplitl [HR HP]
  · iexists iprop(R ∗ P)
    isplitl [HR HP]
    · isplitl [HR]; · iexact HR
      iexact HP
    isplit
    · ipureintro
      intro K
      refine Entails.trans ?_ (hcap K)
      iintro ⟨⟨HR, HP⟩, HK⟩
      isplitl [HR]; · iexact HR
      iintro ⟨Hv, HD⟩
      iapply HK
      isplitl [Hv]; · iexact Hv
      isplitl [HD]; · iexact HD
      iexact HP
    · ipureintro
      intro K
      refine Entails.trans ?_ (hpeek K)
      iintro ⟨⟨HR, HP⟩, HK⟩
      isplitl [HR]; · iexact HR
      iintro HR
      iapply HK
      isplitl [HR]; · iexact HR
      iexact HP
  · iexact Hcred

/-- Starting a local copy out of a buffer held on `S` at share `q` into a held memref: what arrives is the
    destination at what the source reads, and the buffer's share again. -/
theorem start_copy [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {S : Finset (Idx (src.view.loc c))}
    (ι : Ix) (N : ℕ) (hN : dst.view.amount sm = N) (hN0 : 0 < N) (hS : src.view.set ⊆ S) :
    iprop((src.view.loc c ↦[S]{q} fs) ∗ held c dst ∗ semVal (c, sm) 0)
      ⊢ iprop((Flight EC c sm ι N iprop(owns c dst fullShare (src.view.read Val fs) ∗ (src.view.loc c ↦[S]{q} fs))
              -∗ wp frame (wpE defs 𝒱 c bd) Set.univ (k ⟨⟩) Q)
          -∗ wp frame (wpE defs 𝒱 c bd) Set.univ (.op (.enqueueDmaAs src (.here dst) .same sm hsrc hdst hsem) k) Q) := by
  iintro ⟨Hs, Hd, Hv⟩ Hk
  ihave Hd := held_pts c dst $$ Hd
  icases Hd with ⟨%fd, Hd⟩
  ihave Hs := (pointsTo_split_subset hS).1 $$ Hs
  icases Hs with ⟨Hs, Hrest⟩
  iapply (Transfers.wp_dmaLocal EC 𝒱 c bd ι N hN hN0 (src := src) (dst := dst) (fs := fs) (fd := fd) (q := q) (Finset.Subset.refl _)) $$ [Hs Hd Hv]
  · isplitl [Hs]; · iexact Hs
    isplitl [Hd]; · iexact Hd
    iexact Hv
  iintro HF
  iapply Hk
  ihave HF := flight_frame EC c $$ [HF Hrest]
  · isplitl [HF]; · iexact HF
    iexact Hrest
  iapply (Transfers.Flight_mono EC c ?_) $$ HF
  iintro ⟨⟨Hd, Hs⟩, Hrest⟩
  isplitl [Hd]
  · have h := owns_intro (Name := Name) (U := U) (Lvl := Lvl) (Ix := Ix) c dst fullShare
      (dst.view.write Val fd (src.view.read Val fs) Finset.univ)
    rw [View.read_write_univ] at h
    iapply h $$ Hd
  iapply (pointsTo_split_subset hS).2
  isplitl [Hs]; · iexact Hs
  iexact Hrest

/-- The same between two memrefs, the source held at known contents. -/
theorem start_copy_owns [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X : s.Idx → Val e}
    (ι : Ix) (N : ℕ) (hN : dst.view.amount sm = N) (hN0 : 0 < N) :
    iprop(owns c src q X ∗ held c dst ∗ semVal (c, sm) 0)
      ⊢ iprop((Flight EC c sm ι N iprop(owns c dst fullShare X ∗ owns c src q X)
              -∗ wp frame (wpE defs 𝒱 c bd) Set.univ (k ⟨⟩) Q)
          -∗ wp frame (wpE defs 𝒱 c bd) Set.univ (.op (.enqueueDmaAs src (.here dst) .same sm hsrc hdst hsem) k) Q) := by
  iintro ⟨Hs, Hd, Hv⟩ Hk
  ihave Hs := owns_pts c src $$ Hs
  icases Hs with ⟨%fs, %hfs, Hs⟩
  subst hfs
  iapply (start_copy EC 𝒱 c bd ι N hN hN0 (src := src) (dst := dst) (fs := fs) (q := q) (Finset.Subset.refl _)) $$ [Hs Hd Hv]
  · isplitl [Hs]; · iexact Hs
    isplitl [Hd]; · iexact Hd
    iexact Hv
  iintro HF
  iapply Hk
  iapply (Transfers.Flight_mono EC c ?_) $$ HF
  iintro ⟨Hd, Hs⟩
  isplitl [Hd]; · iexact Hd
  iapply (owns_intro c src q fs) $$ Hs

/-- Reading the rectangle under a squeezed slice that is held reads what the slice holds. -/
theorem load_squeezed {cs : CoreSpace} {s' : Shape} {m : Memref sig c.2.kind cs s e} {r : Rect s}
    {hr : ∀ a, r.stride a = 1} {h : r.shape.Squeezes s'} {hl : m.view.LoadsAt r}
    {k : (r.shape.Idx → Val e) → Prog (TpuEff nD τ sig Val Λ c.2) α} {q : PosShare TreeShare} {X : s'.Idx → Val e} :
    (owns c ((m.slice r hr).squeeze s' h) q X : sProp 𝕄)
      ⊢ iprop((owns c ((m.slice r hr).squeeze s' h) q X -∗ wp frame (wpE defs 𝒱 c bd) Set.univ (k (unsq h X)) Q)
          -∗ wp frame (wpE defs 𝒱 c bd) Set.univ (.op (.load m r hl) k) Q) := by
  unfold owns
  iintro ⟨%f, %hf, H⟩ Hk
  iapply (wp_load 𝒱 c bd Set.univ (m := m) (r := r) (S := ((m.slice r hr).squeeze s' h).view.set) (q := q) (f := f) ?_) $$ H
  · simp only [Memref.view_squeeze, Memref.view_slice, View.set_reshape, View.set_slice]
    exact Finset.Subset.refl _
  iintro H
  have hval : m.view.readAt Val r f = unsq h X := by
    subst hf
    funext i
    unfold unsq
    simp only [Memref.view_squeeze, Memref.view_slice, View.read_apply, View.emb_reshape, View.readAt_rect]
    simp
  rw [hval]
  iapply Hk
  iexists f; isplitr; · ipureintro; exact hf
  iexact H

open Rounds in
/-- A copy to another device between two memrefs: the source's share pays the send cell, the target at what the
    source held pays the receive cell; each cell has the one duty of its first round. -/
theorem send_owns (ER : Emb (URounds (GSem nD τ sig) Unit) 𝕄) (Rd : Schedule (GSem nD τ sig) Unit 𝕄)
    {c' : Thread nD τ} {src : Memref sig c.2.kind sp s e} {dst : Memref sig c'.2.kind sp' s e}
    {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {X : s.Idx → Val e}
    {κ₁ κ₂ : Name}
    (hd₁ : () ∈ Rd.duties (c, sS) 0) (hd₂ : () ∈ Rd.duties (c', sem) 0)
    (ι : Ix) (N : ℕ) (hN : dst.view.amount sem = N)
    (hk₁ : Rd.amount (c, sS) 0 () = N) (hk₂ : Rd.amount (c', sem) 0 () = N)
    {O₀ : CellTallies nD τ sig Ix} (O : CellTallies nD τ sig Ix) (hO : O₀ = O + tallyAt (c', sem) ι N) {W : Waits sig Ix}
    (hpay₁ : owns c src q X ⊢ Rd.payload (c, sS) 0 ())
    (hpay₂ : owns c' dst fullShare X ⊢ Rd.payload (c', sem) 0 ()) (hr : τ.routes c c' = true) :
    iprop(cellInv ER Rd κ₁ (c, sS) ∗ cellInv ER Rd κ₂ (c', sem) ∗ owns c src q X ∗ held c' dst ∗ owes c O₀ W
        ∗ dutyTok ER (c, sS) 0 () ∗ reached ER (c, sS) 0 ∗ dutyTok ER (c', sem) 0 () ∗ reached ER (c', sem) 0)
      ⊢ iprop(((cred (tallyAt (c, sS) ι N) ∗ owes c O W) -∗ wp frame (wpE defs 𝒱 c bd) Set.univ (k ⟨⟩) Q)
          -∗ wp frame (wpE defs 𝒱 c bd) Set.univ
              (.op (.enqueueDmaAs src (.remote c' dst sS hsc) .same sem hsrc hdst hsem) k) Q) := by
  iintro ⟨Hi1, Hi2, Hs, Hd, HO, Ht1, Hr1, Ht2, Hr2⟩ Hk
  ihave Hd := held_pts c' dst $$ Hd
  icases Hd with ⟨%fd, Hd⟩
  ihave Hs := owns_pts c src $$ Hs
  icases Hs with ⟨%fs, %hfs, Hs⟩
  iapply (wp_send_pointsTo 𝒱 ER Rd c bd (κ₁ := κ₁) (κ₂ := κ₂) (r₁ := 0) (r₂ := 0) (d₁ := ()) (d₂ := ()) (fd := fd) (fs := fs) (q := q)
      hd₁ hd₂ ι ι N hN hk₁ hk₂ O hO ?_ ?_ hr) $$ [Hi1 Hi2 Hs Hd HO Ht1 Hr1 Ht2 Hr2] Hk
  · refine Entails.trans ?_ hpay₁
    unfold owns
    iintro H; iexists fs; isplitr; · ipureintro; exact hfs
    iexact H
  · refine Entails.trans ?_ hpay₂
    have h := owns_intro (Name := Name) (U := U) (Lvl := Lvl) (Ix := Ix) c' dst fullShare
      (dst.view.write Val fd (src.view.read Val fs) Finset.univ)
    rw [View.read_write_univ] at h
    exact h.trans (Entails.of_eq (by rw [hfs]))
  · isplitl [Hi1]; · iexact Hi1
    isplitl [Hi2]; · iexact Hi2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2

end steps

end Softmax
-- ==== Proof.Base.lean ====
/-
  The names the proof of the softmax kernel is told in: its resource algebra, a device's peer, the
  tiles of its buffers and the numbers of its semaphores — with the equations that turn the printed
  offsets into them — and what the buffers hold as functions of the memory at launch.
-/
module

public import proofs.«01_k».proof.Proof.Rules
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.SL.ExclCount (Counters)

variable {F : FTy → Type} [FloatOps F]

/-! ## The resource algebra: the pipeline's rounds, the kernel's rounds, the local copies' counters -/

abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) :=
  ((Emb.inl : Emb (UR sig nD τ) (UR sig nD τ × Counters)).trans Emb.inr).trans uEmb.toEmb
abbrev EC : UEmb Counters (MT nD τ sig Unit (Elt F) ℕ UU ℕ) := countersEmb

abbrev 𝒱₀ : Variants := Variants.none

/-! ## The peer on mesh axis x -/

set_option backward.proofsInPublic true in
/-- The device at the other place of mesh axis x, at the same places of the other two. -/
def peer (c : Dev nD) : Dev nD := ⟨(c.val + 4) % 8, Nat.mod_lt _ (by decide)⟩

theorem peer_peer (c : Dev nD) : peer (peer c) = c := by revert c; decide
theorem peer_ne (c : Dev nD) : peer c ≠ c := by revert c; decide
theorem peer_place (c : Dev nD) : (peer c).val / 4 = 1 - c.val / 4 := by revert c; decide
def peers : Dev nD ≃ Dev nD := ⟨peer, peer, peer_peer, peer_peer⟩

theorem dev1_eq (c : Dev nD) : (⟨k0_dev1 c, k0_dev1_lt c⟩ : Dev nD) = peer c := by
  exact Fin.ext ((k0_dev1_eq c).trans (by revert c; decide))
theorem dev2_eq (c : Dev nD) (k : Fin k0_t1_loop.trips) (h : k0_cond2 k = 1#1) : (⟨k0_dev2 c, k0_dev2_lt c k h⟩ : Dev nD) = peer c := by
  exact Fin.ext ((k0_dev2_eq c).trans (by revert c; decide))
theorem dev3_eq (c : Dev nD) : (⟨k0_dev3 c, k0_dev3_lt c⟩ : Dev nD) = peer c := by
  exact Fin.ext ((k0_dev3_eq c).trans (by revert c; decide))

/-! ## The loops' trips -/

theorem trips1 : k0_t1_loop.trips = 16 := by decide +kernel
theorem trips2 : k0_t2_loop.trips = 8 := by decide +kernel
theorem trips3 : k0_t3_loop.trips = 8 := by decide +kernel

theorem cond1_iff (k : Fin k0_t1_loop.trips) : k0_cond1 k = 1#1 ↔ k.val + 1 < 16 := by revert k; decide +kernel
theorem cond2_iff (k : Fin k0_t1_loop.trips) : k0_cond2 k = 1#1 ↔ k.val % 2 = 1 := by revert k; decide +kernel
theorem off8_eq (k : Fin k0_t1_loop.trips) : k0_off8 k = ![0, 512 * (k.val % 2)] := by revert k; decide +kernel
theorem off9_eq (k : Fin k0_t1_loop.trips) (h : k0_cond2 k = 1#1) : k0_off9 k = ![0, k.val / 2, 0, 0] := by
  revert k; decide +kernel
theorem off10_eq (k : Fin k0_t1_loop.trips) (h : k0_cond2 k = 1#1) : k0_off10 k = ![k.val / 2] := by
  revert k; decide +kernel
theorem off11_eq (k : Fin k0_t1_loop.trips) (h : k0_cond2 k = 1#1) : k0_off11 k = ![1, k.val / 2, 0, 0] := by
  revert k; decide +kernel

/-! ## The buffers and their tiles -/

abbrev xM : Memref sig .tc .vmem S2048x4096 .f32 := Memref.whole cc0_stg0_0
abbrev wM : Memref sig .tc .hbm S4096x8192 .f32 := Memref.whole main_arg1
abbrev oM : Memref sig .tc .hbm S2048x16384 .f32 := Memref.whole main_v1_0
abbrev cM : Memref sig .tc .hbm S2x8x2048x1024 .f32 := Memref.whole main_v1_1
abbrev bM : Memref sig .tc .vmem S2x4096x512 .f32 := Memref.whole cc0_scratch0
abbrev eM : Memref sig .tc .vmem S2048x1024 .f32 := Memref.whole cc0_scratch1
abbrev sM : Memref sig .tc .vmem S2048x1 .f32 := Memref.whole cc0_scratch2
abbrev pM : Memref sig .tc .vmem S2048x1 .f32 := Memref.whole cc0_scratch3

theorem wch_inb (k : Fin 16) : ∀ a, (![0, 512 * k.val] : Fin 2 → Nat) a + S4096x512.size a ≤ S4096x8192.size a := by
  revert k; decide
theorem slot_inb (s : Fin 2) : ∀ a, (![s.val, 0, 0] : Fin 3 → Nat) a + S1x4096x512.size a ≤ S2x4096x512.size a := by
  revert s; decide
theorem comm_inb (h : Fin 2) (i : Fin 8) :
    ∀ a, (![h.val, i.val, 0, 0] : Fin 4 → Nat) a + S1x1x2048x1024.size a ≤ S2x8x2048x1024.size a := by
  revert h i; decide
theorem outT_inb (h : Fin 2) (i : Fin 8) :
    ∀ a, (![0, 8192 * h.val + 1024 * i.val] : Fin 2 → Nat) a + S2048x1024.size a ≤ S2048x16384.size a := by
  revert h i; decide
theorem half_inb (b : Fin 2) : ∀ a, (![0, 512 * b.val] : Fin 2 → Nat) a + S2048x512.size a ≤ S2048x1024.size a := by
  revert b; decide

/-- Columns 512 k … 512 k + 511 of the device's block of W. -/
def wch (k : Fin 16) : Memref sig .tc .hbm S4096x512 .f32 :=
  wM.slice (Rect.unit (s := S4096x8192) ![0, 512 * k.val] S4096x512.size (wch_inb k)) (fun _ => rfl)
/-- One of the two slots the chunks of W are read from, before it is squeezed. -/
def slot1 (s : Fin 2) : Memref sig .tc .vmem S1x4096x512 .f32 :=
  bM.slice (Rect.unit (s := S2x4096x512) ![s.val, 0, 0] S1x4096x512.size (slot_inb s)) (fun _ => rfl)
/-- The same, as a matrix. -/
def slot (s : Fin 2) : Memref sig .tc .vmem S4096x512 .f32 :=
  (slot1 s).squeeze S4096x512 squeezes_S1x4096x512_S4096x512
/-- Tile `i` of the device's own half (`h = 0`) or of its peer's (`h = 1`), in the exchange buffer. -/
def comm (h : Fin 2) (i : Fin 8) : Memref sig .tc .hbm S2048x1024 .f32 :=
  (cM.slice (Rect.unit (s := S2x8x2048x1024) ![h.val, i.val, 0, 0] S1x1x2048x1024.size (comm_inb h i)) (fun _ => rfl)).squeeze
    S2048x1024 squeezes_S1x1x2048x1024_S2048x1024
/-- Tile `i` of half `h` of the result. -/
def outT (h : Fin 2) (i : Fin 8) : Memref sig .tc .hbm S2048x1024 .f32 :=
  oM.slice (Rect.unit (s := S2048x16384) ![0, 8192 * h.val + 1024 * i.val] S2048x1024.size (outT_inb h i)) (fun _ => rfl)
/-- The left or right half of a tile's columns. -/
def halfR (b : Fin 2) : Rect S2048x1024 := Rect.unit (s := S2048x1024) ![0, 512 * b.val] S2048x512.size (half_inb b)

theorem wch_of {off : Fin 2 → Nat} {hi} {hr} (k : Fin 16) (e : off = ![0, 512 * k.val]) :
    (wM.slice (Rect.unit (s := S4096x8192) off S4096x512.size hi) hr : Memref sig .tc .hbm S4096x512 .f32) = wch k := by
  subst e; rfl
theorem slot_of {off : Fin 3 → Nat} {hi} {hr} {hq} (s : Fin 2) (e : off = ![s.val, 0, 0]) :
    ((bM.slice (Rect.unit (s := S2x4096x512) off S1x4096x512.size hi) hr : Memref sig .tc .vmem S1x4096x512 .f32).squeeze S4096x512 hq :
      Memref sig .tc .vmem S4096x512 .f32) = slot s := by
  subst e; rfl
theorem comm_of {off : Fin 4 → Nat} {hi} {hr} {hq} (h : Fin 2) (i : Fin 8) (e : off = ![h.val, i.val, 0, 0]) :
    ((cM.slice (Rect.unit (s := S2x8x2048x1024) off S1x1x2048x1024.size hi) hr : Memref sig .tc .hbm S1x1x2048x1024 .f32).squeeze S2048x1024 hq :
      Memref sig .tc .hbm S2048x1024 .f32) = comm h i := by
  subst e; rfl
theorem outT_of {off : Fin 2 → Nat} {hi} {hr} (h : Fin 2) (i : Fin 8) (e : off = ![0, 8192 * h.val + 1024 * i.val]) :
    (oM.slice (Rect.unit (s := S2048x16384) off S2048x1024.size hi) hr : Memref sig .tc .hbm S2048x1024 .f32) = outT h i := by
  subst e; rfl
theorem halfR_of {off : Fin 2 → Nat} {hi} (b : Fin 2) (e : off = ![0, 512 * b.val]) :
    (Rect.unit (s := S2048x1024) off S2048x512.size hi : Rect S2048x1024) = halfR b := by
  subst e; rfl

/-! ## The semaphores -/

set_option backward.proofsInPublic true in
/-- DMA semaphore number `n`. -/
def dq (n : Fin 22) : DmaSem sig := n

/-- The barrier semaphore of collective id 0. -/
abbrev barS : Sem sig := (SemArray.scalar (sig.barrier 0 rfl) : Sems sig S_).sem

set_option backward.proofsInPublic true in
def sendQ (i : Fin 8) : DmaSem sig := dq ⟨1 + i.val, by omega⟩
set_option backward.proofsInPublic true in
def recvQ (i : Fin 8) : DmaSem sig := dq ⟨9 + i.val, by omega⟩
set_option backward.proofsInPublic true in
def slotQ (s : Fin 2) : DmaSem sig := dq ⟨18 + s.val, by omega⟩
def copyQ : DmaSem sig := dq 17
def ssendQ : DmaSem sig := dq 20
def srecvQ : DmaSem sig := dq 21

theorem sendQ_of {off : Fin 1 → Nat} {hi} {hq} (i : Fin 8) (e : off = ![i.val]) :
    (((cc0_scratch4 : DmaSems sig S8).slice (Rect.unit (s := S8) off S1.size hi) : DmaSems sig S1).squeeze S_ hq : DmaSems sig S_).sem = sendQ i := by
  subst e; revert i; decide
theorem recvQ_of {off : Fin 1 → Nat} {hi} {hq} (i : Fin 8) (e : off = ![i.val]) :
    (((cc0_scratch5 : DmaSems sig S8).slice (Rect.unit (s := S8) off S1.size hi) : DmaSems sig S1).squeeze S_ hq : DmaSems sig S_).sem = recvQ i := by
  subst e; revert i; decide
theorem slotQ_of {off : Fin 1 → Nat} {hi} {hq} (s : Fin 2) (e : off = ![s.val]) :
    (((cc0_scratch7 : DmaSems sig S2).slice (Rect.unit (s := S2) off S1.size hi) : DmaSems sig S1).squeeze S_ hq : DmaSems sig S_).sem = slotQ s := by
  subst e; revert s; decide
theorem copyQ_eq : (cc0_scratch6 : DmaSems sig S_).sem = copyQ := by decide
theorem ssendQ_eq : (cc0_scratch8 : DmaSems sig S_).sem = ssendQ := by decide
theorem srecvQ_eq : (cc0_scratch9 : DmaSems sig S_).sem = srecvQ := by decide

/-- What one tile's copy into the exchange buffer, into the tile buffer, into the result, one chunk's into a slot and the
    row sums' into the peer credit their semaphores. -/
def Nt : ℕ := (comm 0 0).view.dmaCredit
def Ne : ℕ := eM.view.dmaCredit
def No : ℕ := (outT 0 0).view.dmaCredit
def Nw : ℕ := (slot 0).view.dmaCredit
def Ns : ℕ := pM.view.dmaCredit

theorem Nt_pos : 0 < Nt := View.dmaCredit_pos _ (by decide)
theorem Ne_pos : 0 < Ne := View.dmaCredit_pos _ (by decide)
theorem No_pos : 0 < No := View.dmaCredit_pos _ (by decide)
theorem Nw_pos : 0 < Nw := View.dmaCredit_pos _ (by decide)
theorem Ns_pos : 0 < Ns := View.dmaCredit_pos _ (by decide)
theorem comm_credit (h : Fin 2) (i : Fin 8) : (comm h i).view.dmaCredit = Nt := rfl
theorem outT_credit (h : Fin 2) (i : Fin 8) : (outT h i).view.dmaCredit = No := rfl
theorem slot_credit (s : Fin 2) : (slot s).view.dmaCredit = Nw := rfl

/-! ## Loads and stores of whole buffers -/

theorem hz2 : (![0, 0] : Fin 2 → Nat) = fun _ => 0 := funext fun a => by fin_cases a <;> rfl

theorem read_x {hi} (f : S2048x4096.Idx → F .f32) :
    (xM : Memref sig .tc .vmem S2048x4096 .f32).view.readAt (Elt F) (Rect.unit (s := S2048x4096) ![0, 0] S2048x4096.size hi).toLoadRect f = f :=
  Memref.readAt_unit_zero (Elt F) cc0_stg0_0 hz2 _ f
theorem read_s {hi} (f : S2048x1.Idx → F .f32) :
    (sM : Memref sig .tc .vmem S2048x1 .f32).view.readAt (Elt F) (Rect.unit (s := S2048x1) ![0, 0] S2048x1.size hi).toLoadRect f = f :=
  Memref.readAt_unit_zero (Elt F) cc0_scratch2 hz2 _ f
theorem read_p {hi} (f : S2048x1.Idx → F .f32) :
    (pM : Memref sig .tc .vmem S2048x1 .f32).view.readAt (Elt F) (Rect.unit (s := S2048x1) ![0, 0] S2048x1.size hi).toLoadRect f = f :=
  Memref.readAt_unit_zero (Elt F) cc0_scratch3 hz2 _ f
theorem read_e {hi} (f : S2048x1024.Idx → F .f32) :
    (eM : Memref sig .tc .vmem S2048x1024 .f32).view.readAt (Elt F) (Rect.unit (s := S2048x1024) ![0, 0] S2048x1024.size hi).toLoadRect f = f :=
  Memref.readAt_unit_zero (Elt F) cc0_scratch1 hz2 _ f
theorem write_s {hi} (f w : S2048x1.Idx → F .f32) :
    ((sM : Memref sig .tc .vmem S2048x1 .f32).access (Rect.unit (s := S2048x1) ![0, 0] S2048x1.size hi) : View sig _ _ _ _).write (Elt F) f w Finset.univ = w :=
  Memref.write_access_unit_zero_univ (Elt F) cc0_scratch2 hz2 _ f w
theorem write_e {hi} (f w : S2048x1024.Idx → F .f32) :
    ((eM : Memref sig .tc .vmem S2048x1024 .f32).access (Rect.unit (s := S2048x1024) ![0, 0] S2048x1024.size hi) : View sig _ _ _ _).write (Elt F) f w Finset.univ = w :=
  Memref.write_access_unit_zero_univ (Elt F) cc0_scratch1 hz2 _ f w

/-! ## What the buffers hold -/

variable (m : (ℓ : Loc nD τ sig) → Buf (Elt F) ℓ)

/-- The staged x of device `c`. -/
def stgX (c : Dev nD) : S2048x4096.Idx → F .f32 :=
  (win0_0.blk (0 : Fin 1)).view.read (Elt F) (m ((c : Thread nD τ).loc main_arg0))
/-- Chunk `k` of the device's block of W. -/
def wcol (c : Dev nD) (k : Fin 16) : S4096x512.Idx → F .f32 :=
  (wch k).view.read (Elt F) (m ((c : Thread nD τ).loc main_arg1))
/-- The same as a slot holds it. -/
def wslot (c : Dev nD) (k : Fin 16) : S1x4096x512.Idx → F .f32 :=
  unsq squeezes_S1x4096x512_S4096x512 (wcol m c k)
/-- The exponentials of chunk `k`'s logits. -/
def ech (c : Dev nD) (k : Fin 16) : S2048x512.Idx → F .f32 := k0_pay4 (stgX m c) (wslot m c k)
/-- The row sums after the first `n` chunks. -/
def sumN (c : Dev nD) : ℕ → (S2048x1.Idx → F .f32)
  | 0 => k0_pay7
  | n + 1 => if h : n < 16 then k0_pay5 (stgX m c) (wslot m c ⟨n, h⟩) (sumN c n) else sumN c n
/-- The row sums of the device's half. -/
def sumC (c : Dev nD) : S2048x1.Idx → F .f32 := sumN m c 16

theorem sumN_succ (c : Dev nD) (k : Fin 16) : sumN m c (k.val + 1) = k0_pay5 (stgX m c) (wslot m c k) (sumN m c k.val) := by
  rw [sumN, dif_pos k.isLt]

theorem lt2048 (x : Nat) : x % 2048 < 2048 := Nat.mod_lt _ (by decide)

/-- Where a tile's element stands in its half of the tile's columns. -/
def inHalf (p : S2048x1024.Idx) : S2048x512.Idx :=
  fun a => ⟨(p a).val % S2048x512.size a, Nat.mod_lt _ (by revert a; decide)⟩

theorem chunk_lt (i : Fin 8) (p : S2048x1024.Idx) : 2 * i.val + (p 1).val / 512 < 16 := by
  have : (p 1).val < 1024 := (p 1).isLt
  omega
/-- Tile `i` of the device's exponentials: two chunks side by side. -/
def eTile (c : Dev nD) (i : Fin 8) : S2048x1024.Idx → F .f32 :=
  fun p => ech m c ⟨2 * i.val + (p 1).val / 512, chunk_lt i p⟩ (inHalf p)

/-- The device's own tile of the result, and its peer's. -/
def ownOut (c : Dev nD) (i : Fin 8) : S2048x1024.Idx → F .f32 := k0_pay6 (k0_pay2 (sumC m c) (sumC m (peer c))) (eTile m c i)
def peerOut (c : Dev nD) (i : Fin 8) : S2048x1024.Idx → F .f32 := k0_pay3 (sumC m c) (sumC m (peer c)) (eTile m (peer c) i)

end Softmax
-- ==== Proof.Schedule.lean ====
/-
  The protocol between a device and its peer: one cell per semaphore the two share, one duty each.
  The barrier cell hands over the peer's landing places; a tile's receive cell the tile landed; the
  row sums' receive cell the peer's row sums; the send cells what was lent to the copies.
-/
module

public import proofs.«01_k».proof.Proof.Base

@[expose] public section

noncomputable section

namespace Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells -/

/-- The kinds of shared cells: barrier, sums' send, sums' receive; a tile's send; a tile's receive. -/
abbrev CK : Type := Fin 3 ⊕ (Fin 8 ⊕ Fin 8)

def csem : CK → SemLoc sig
  | .inl 0 => .reg barS
  | .inl 1 => .dma ssendQ
  | .inl 2 => .dma srecvQ
  | .inr (.inl i) => .dma (sendQ i)
  | .inr (.inr i) => .dma (recvQ i)

def kcell (ck : Dev nD × CK) : GSem nD τ sig := ((ck.1 : Thread nD τ), csem ck.2)

abbrev barCell (c : Dev nD) : GSem nD τ sig := ((c : Thread nD τ), .reg barS)
abbrev ssendCell (c : Dev nD) : GSem nD τ sig := ((c : Thread nD τ), .dma ssendQ)
abbrev srecvCell (c : Dev nD) : GSem nD τ sig := ((c : Thread nD τ), .dma srecvQ)
abbrev sendCell (c : Dev nD) (i : Fin 8) : GSem nD τ sig := ((c : Thread nD τ), .dma (sendQ i))
abbrev recvCell (c : Dev nD) (i : Fin 8) : GSem nD τ sig := ((c : Thread nD τ), .dma (recvQ i))

/-! ## What the duties hand over -/

/-- What the peer's signal hands device `c`: the peer's landing places. -/
def barPay (c : Dev nD) : sProp 𝕄 :=
  iprop(held (peer c : Thread nD τ) pM ∗ bigSep Finset.univ (fun i : Fin 8 => held (peer c : Thread nD τ) (comm 1 i)))
/-- The half share of its own tile that the copy to the peer borrowed. -/
def sendPay (c : Dev nD) (i : Fin 8) : sProp 𝕄 := owns (c : Thread nD τ) (comm 0 i) (fullShare : PosShare TreeShare).left (eTile m c i)
/-- The peer's tile, landed. -/
def recvPay (c : Dev nD) (i : Fin 8) : sProp 𝕄 := owns (c : Thread nD τ) (comm 1 i) fullShare (eTile m (peer c) i)
/-- The device's own row sums, back. -/
def ssendPay (c : Dev nD) : sProp 𝕄 := owns (c : Thread nD τ) sM fullShare (sumC m c)
/-- The peer's row sums, landed. -/
def srecvPay (c : Dev nD) : sProp 𝕄 := owns (c : Thread nD τ) pM fullShare (sumC m (peer c))

instance barPay_storable (c : Dev nD) : BI.Storable (upEmb : UEmb _ 𝕄) (barPay (F := F) c) := by unfold barPay; infer_instance
instance sendPay_storable (c : Dev nD) (i : Fin 8) : BI.Storable (upEmb : UEmb _ 𝕄) (sendPay m c i) := by unfold sendPay; infer_instance
instance recvPay_storable (c : Dev nD) (i : Fin 8) : BI.Storable (upEmb : UEmb _ 𝕄) (recvPay m c i) := by unfold recvPay; infer_instance
instance ssendPay_storable (c : Dev nD) : BI.Storable (upEmb : UEmb _ 𝕄) (ssendPay m c) := by unfold ssendPay; infer_instance
instance srecvPay_storable (c : Dev nD) : BI.Storable (upEmb : UEmb _ 𝕄) (srecvPay m c) := by unfold srecvPay; infer_instance

/-- By the number of a DMA semaphore. -/
def dmaPay (c : Dev nD) (q : ℕ) : sProp 𝕄 :=
  if h : 1 ≤ q ∧ q < 9 then sendPay m c ⟨q - 1, by omega⟩
  else if h : 9 ≤ q ∧ q < 17 then recvPay m c ⟨q - 9, by omega⟩
  else if q = 20 then ssendPay m c
  else if q = 21 then srecvPay m c
  else iprop(emp)

instance dmaPay_storable (c : Dev nD) (q : ℕ) : BI.Storable (upEmb : UEmb _ 𝕄) (dmaPay m c q) := by
  unfold dmaPay; (repeat' split) <;> infer_instance

/-! ## The schedule -/

/-- Is `g` one of the shared cells? -/
def IsRing (g : GSem nD τ sig) : Prop :=
  g.1.2 = .tc ∧ match g.2 with
    | .reg _ => True
    | .dma q => (1 ≤ q.val ∧ q.val < 17) ∨ q.val = 20 ∨ q.val = 21

instance (g : GSem nD τ sig) : Decidable (IsRing g) := by unfold IsRing; split <;> infer_instance

def amt : SemLoc sig → ℕ
  | .reg _ => 1
  | .dma q => if q.val < 17 then Nt else Ns

def payOf (g : GSem nD τ sig) : sProp 𝕄 :=
  match g.2 with
  | .reg _ => barPay g.1.1
  | .dma q => dmaPay m g.1.1 q.val

def Rd : Rounds.Schedule (GSem nD τ sig) Unit 𝕄 where
  duties g r := if r = 0 ∧ IsRing g then {()} else ∅
  unitless _ := False
  amount g _ _ := amt g.2
  payload g _ _ := payOf m g
  amount_pos g _ _ _ := by
    unfold amt; split
    · exact Nat.one_pos
    · split
      · exact Nt_pos
      · exact Ns_pos

instance Rd_payload_storable (g : GSem nD τ sig) (r : ℕ) (d : Unit) :
    BI.Storable (upEmb : UEmb _ 𝕄) ((Rd (F := F) m).payload g r d) := by
  show BI.Storable upEmb (payOf m g)
  unfold payOf; split <;> infer_instance

theorem ring_kcell (c : Dev nD) (k : CK) : IsRing (kcell (c, k)) := by
  refine ⟨rfl, ?_⟩
  rcases k with k | i | i
  · fin_cases k
    · trivial
    · exact Or.inr (Or.inl rfl)
    · exact Or.inr (Or.inr rfl)
  · refine Or.inl ⟨?_, ?_⟩
    · show 1 ≤ 1 + i.val; omega
    · show 1 + i.val < 17; omega
  · refine Or.inl ⟨?_, ?_⟩
    · show 1 ≤ 9 + i.val; omega
    · show 9 + i.val < 17; omega

theorem duties_of {g : GSem nD τ sig} (h : IsRing g) : (Rd (F := F) m).duties g 0 = {()} := by
  dsimp only [Rd]; exact if_pos ⟨rfl, h⟩
theorem duties_later (g : GSem nD τ sig) : ∀ r, 1 ≤ r → (Rd (F := F) m).duties g r = ∅ :=
  fun r hr => by dsimp only [Rd]; rw [if_neg fun h => by omega]
theorem expect_of {g : GSem nD τ sig} (h : IsRing g) : (Rd (F := F) m).expect g 0 = amt g.2 := by
  unfold Schedule.expect Schedule.amountOf; rw [duties_of m h, Finset.sum_singleton]; rfl
/-- The rest of a cell's round, no duty taken. -/
theorem rest_of {g : GSem nD τ sig} (h : IsRing g) :
    bigSep ((Rd (F := F) m).duties g 0 \ ∅) (fun d => (Rd (F := F) m).payload g 0 d) = payOf m g := by
  rw [Finset.sdiff_empty, duties_of m h, bigSep_singleton]; rfl

section cells
variable (c : Dev nD) (i : Fin 8)

theorem ring_bar : IsRing (barCell c) := ring_kcell c (.inl 0)
theorem ring_ssend : IsRing (ssendCell c) := ring_kcell c (.inl 1)
theorem ring_srecv : IsRing (srecvCell c) := ring_kcell c (.inl 2)
theorem ring_send : IsRing (sendCell c i) := ring_kcell c (.inr (.inl i))
theorem ring_recv : IsRing (recvCell c i) := ring_kcell c (.inr (.inr i))

theorem pay_bar : payOf m (barCell c) = barPay c := rfl
theorem pay_ssend : payOf m (ssendCell c) = ssendPay m c := rfl
theorem pay_srecv : payOf m (srecvCell c) = srecvPay m c := rfl
theorem pay_send : payOf m (sendCell c i) = sendPay m c i := by
  show dmaPay m c (1 + i.val) = _
  unfold dmaPay; rw [dif_pos (by omega)]
  congr 1; apply Fin.ext; show 1 + i.val - 1 = i.val; omega
theorem pay_recv : payOf m (recvCell c i) = recvPay m c i := by
  show dmaPay m c (9 + i.val) = _
  unfold dmaPay; rw [dif_neg (by omega), dif_pos (by omega)]
  congr 1; apply Fin.ext; show 9 + i.val - 9 = i.val; omega

theorem amt_bar : amt (.reg barS) = 1 := rfl
theorem amt_ssend : amt (.dma ssendQ) = Ns := rfl
theorem amt_srecv : amt (.dma srecvQ) = Ns := rfl
theorem amt_send : amt (.dma (sendQ i)) = Nt := if_pos (show 1 + i.val < 17 by omega)
theorem amt_recv : amt (.dma (recvQ i)) = Nt := if_pos (show 9 + i.val < 17 by omega)

end cells

/-! ## What each device owes; the levels -/

/-- What device `c` owes once `n` of its tiles are sent: the rest of the tiles to the peer's receive cells, and its row
    sums. -/
def Od (c : Dev nD) (n : ℕ) : CellTallies nD τ sig Unit :=
  (∑ i ∈ (Finset.univ : Finset (Fin 8)).filter (fun i => n ≤ i.val), tallyAt (recvCell (peer c) i) () Nt) + tallyAt (srecvCell (peer c)) () Ns
/-- At launch: that, and the signal to the peer. -/
def O₀ (c : Dev nD) : CellTallies nD τ sig Unit := Od c 0 + tallyAt (barCell (peer c)) () 1

theorem Od_step (c : Dev nD) (i : Fin 8) : Od c i.val = Od c (i.val + 1) + tallyAt (recvCell (peer c) i) () Nt := by
  have h : (Finset.univ : Finset (Fin 8)).filter (fun j => i.val ≤ j.val)
      = insert i ((Finset.univ : Finset (Fin 8)).filter (fun j => i.val + 1 ≤ j.val)) := by
    ext j; simp only [Finset.mem_filter, Finset.mem_univ, true_and, Finset.mem_insert, Fin.ext_iff]; omega
  unfold Od
  rw [h, Finset.sum_insert (by simp), add_comm (tallyAt (recvCell (peer c) i) () Nt), add_right_comm]

theorem Od_last (c : Dev nD) : Od c 8 = tallyAt (srecvCell (peer c)) () Ns := by
  unfold Od
  rw [Finset.filter_eq_empty_iff.mpr (fun i _ => by have := i.isLt; omega), Finset.sum_empty, zero_add]

def L (g : GSem nD τ sig) : Finset Unit := if g.1.2 = .tc then {()} else ∅
/-- barrier cells at 1, the receive cells at 2, everything else at 0. -/
def lvS : SemLoc sig → ℕ
  | .reg _ => 1
  | .dma q => if (9 ≤ q.val ∧ q.val < 17) ∨ q.val = 21 then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem Od_pos {c : Dev nD} {n : ℕ} {g : GSem nD τ sig} {u : Unit} (h : 0 < Od c n g u) :
    (∃ i, g = recvCell (peer c) i) ∨ g = srecvCell (peer c) := by
  by_contra hn
  rw [not_or, not_exists] at hn
  unfold Od at h
  rw [Pi.add_apply, Finsupp.add_apply, tallyAt_apply, if_neg (fun h' => hn.2 h'.1), add_zero, Finset.sum_apply, Finsupp.finset_sum_apply,
    Finset.sum_eq_zero (fun i _ => by rw [tallyAt_apply, if_neg (fun h' => hn.1 i h'.1)])] at h
  exact Nat.lt_irrefl 0 h

theorem lv_recv (c : Dev nD) (i : Fin 8) (u : Unit) : lv (recvCell c i) u = 2 := by
  show (if (9 ≤ 9 + i.val ∧ 9 + i.val < 17) ∨ 9 + i.val = 21 then 2 else 0) = 2
  rw [if_pos (by omega)]
theorem lvS_slot (s : Fin 2) : lvS (.dma (slotQ s)) = 0 := by
  show (if (9 ≤ 18 + s.val ∧ 18 + s.val < 17) ∨ 18 + s.val = 21 then 2 else 0) = 0
  rw [if_neg (by omega)]
theorem lvS_copy : lvS (.dma copyQ) = 0 := rfl
theorem lvS_bar : lvS (.reg barS) = 1 := rfl
theorem lv_srecv (c : Dev nD) (u : Unit) : lv (srecvCell c) u = 2 := rfl

/-- A device may wait on a semaphore below the receive cells while its sends are due, -/
theorem mayWait_due (c : Dev nD) (sm : SemLoc sig) (h : lvS sm ≤ 1) (n : ℕ) :
    (levAts L lv : sProp 𝕄) ⊢ MayWait (c : Thread nD τ) sm () (Od c n) :=
  MayOwe.of_cut (L := L) (lev := lv) 1 (fun p hp => by rw [Finset.mem_singleton.mp hp, L_tc]; exact Finset.mem_singleton_self _)
    (fun g u hg => by rcases Od_pos hg with ⟨i, rfl⟩ | rfl <;> exact Finset.mem_singleton_self _)
    (fun p hp => by rw [Finset.mem_singleton.mp hp]; exact h)
    (fun g u hg => by
      rcases Od_pos hg with ⟨i, rfl⟩ | rfl
      · rw [lv_recv]; decide
      · rw [lv_srecv]; decide)

/-- on one below the barrier before its signal too, -/
theorem mayWait_start (c : Dev nD) (sm : SemLoc sig) (h : lvS sm = 0) :
    (levAts L lv : sProp 𝕄) ⊢ MayWait (c : Thread nD τ) sm () (O₀ c) := by
  have hp : ∀ {g : GSem nD τ sig} {u : Unit}, 0 < O₀ c g u → ((∃ i, g = recvCell (peer c) i) ∨ g = srecvCell (peer c)) ∨ g = barCell (peer c) := by
    intro g u h
    by_contra hn
    rw [not_or] at hn
    unfold O₀ at h
    rw [Pi.add_apply, Finsupp.add_apply, tallyAt_apply (barCell (peer c)), if_neg (fun h' => hn.2 h'.1), add_zero] at h
    exact hn.1 (Od_pos h)
  exact MayOwe.of_cut (L := L) (lev := lv) 0 (fun p hp => by rw [Finset.mem_singleton.mp hp, L_tc]; exact Finset.mem_singleton_self _)
    (fun g u hg => by rcases hp hg with (⟨i, rfl⟩ | rfl) | rfl <;> exact Finset.mem_singleton_self _)
    (fun p hp => by rw [Finset.mem_singleton.mp hp]; exact h.le)
    (fun g u hg => by
      rcases hp hg with (⟨i, rfl⟩ | rfl) | rfl
      · rw [lv_recv]; decide
      · rw [lv_srecv]; decide
      · exact Nat.one_pos)

/-- and on any with nothing due. -/
theorem mayWait_free (c : Dev nD) (sm : SemLoc sig) : (levAts L lv : sProp 𝕄) ⊢ MayWait (c : Thread nD τ) sm () 0 := by
  rw [MayWait_zero]; iintro -; iempintro

/-! ## The records every device carries -/

/-- The cells' invariants, under the names `K`, and that their first rounds are reached. -/
def records (K : Dev nD × CK → ℕ) : sProp 𝕄 :=
  bigSep Finset.univ (fun ck : Dev nD × CK => iprop(cellInv ER (Rd m) (K ck) (kcell ck) ∗ reached ER (kcell ck) 0))

instance records_persistent (K : Dev nD × CK → ℕ) : BI.Persistent (records m K) := by unfold records; infer_instance

theorem inv_at (K : Dev nD × CK → ℕ) (c : Dev nD) (k : CK) : records m K ⊢ cellInv ER (Rd m) (K (c, k)) (kcell (c, k)) := by
  unfold records
  refine (bigSep_elim (i := (c, k)) (Finset.mem_univ _)).trans ?_
  show iprop(cellInv ER (Rd m) (K (c, k)) (kcell (c, k)) ∗ reached ER (kcell (c, k)) 0) ⊢ _
  iintro ⟨H, -⟩; iexact H
theorem reached_at (K : Dev nD × CK → ℕ) (c : Dev nD) (k : CK) : records m K ⊢ (reached ER (kcell (c, k)) 0 : sProp 𝕄) := by
  unfold records
  refine (bigSep_elim (i := (c, k)) (Finset.mem_univ _)).trans ?_
  show iprop(cellInv ER (Rd m) (K (c, k)) (kcell (c, k)) ∗ reached ER (kcell (c, k)) 0) ⊢ _
  iintro ⟨-, H⟩; iexact H

/-- A duty is free in one bigSep place: taking place `i` out and putting something else back. -/
theorem bigSep_swap {n : ℕ} (Φ Ψ : Fin n → sProp 𝕄) (i : Fin n) (h : ∀ j, j ≠ i → Φ j = Ψ j) :
    bigSep Finset.univ Φ ⊢ iprop(Φ i ∗ (Ψ i -∗ bigSep Finset.univ Ψ)) := by
  rw [bigSep_univ_at Φ i, bigSep_univ_at Ψ i, bigSep_congr (fun j hj => h j (Finset.ne_of_mem_erase hj))]
  iintro ⟨H, Hr⟩
  isplitl [H]; · iexact H
  iintro H
  isplitl [H]; · iexact H
  iexact Hr

end Softmax
-- ==== Proof.Chunk.lean ====
/-
  The first loop: a trip waits for its chunk of W (the next one already on its way into the other
  slot), adds the exponentials' row sums, stores the exponentials into their half of the tile buffer
  and, every second trip, writes the tile out and sends it to the peer.
-/
module

public import proofs.«01_k».proof.Proof.Schedule

@[expose] public section

noncomputable section

namespace Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Transfers (Flight)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## What a trip finds and leaves -/

/-- The share of W a slot's copies read it at. -/
def shr (s : Fin 2) : PosShare TreeShare := if s = 0 then (fullShare : PosShare TreeShare).left else (fullShare : PosShare TreeShare).right

def wPts (q : PosShare TreeShare) : sProp 𝕄 := ((c : Thread nD τ).loc main_arg1) ↦{q} m ((c : Thread nD τ).loc main_arg1)
def xPts : sProp 𝕄 := ((c : Thread nD τ).loc cc0_stg0_0) ↦{fullShare} stgX m c
def sPts (f : S2048x1.Idx → F .f32) : sProp 𝕄 := ((c : Thread nD τ).loc cc0_scratch2) ↦{fullShare} f

/-- A slot no copy is filling. -/
def idle (s : Fin 2) : sProp 𝕄 := iprop(held (c : Thread nD τ) (slot s) ∗ wPts m c (shr s) ∗ semVal ((c : Thread nD τ), .dma (slotQ s)) 0)
/-- A slot chunk `k` is on its way into. -/
def flying (s : Fin 2) (k : Fin 16) : sProp 𝕄 :=
  Flight EC (c : Thread nD τ) (.dma (slotQ s)) () Nw iprop(owns (c : Thread nD τ) (slot s) fullShare (wcol m c k) ∗ wPts m c (shr s))

def par (n : ℕ) : Fin 2 := ⟨n % 2, Nat.mod_lt _ (by decide)⟩

/-- The slot of chunk `n`, before trip `n`. -/
def nextSlot (n : ℕ) : sProp 𝕄 := if h : n < 16 then flying m c (par n) ⟨n, h⟩ else idle m c (par n)

/-- A tile before it is sent: its two places and the two duties its copy pays; -/
def unsent (i : Fin 8) : sProp 𝕄 :=
  iprop(held (c : Thread nD τ) (comm 0 i) ∗ held (peer c : Thread nD τ) (comm 1 i)
    ∗ dutyTok ER (sendCell c i) 0 () ∗ dutyTok ER (recvCell (peer c) i) 0 ())
/-- after: the half of its own place the copy did not borrow, and the credit to wait for the other half. -/
def sent (i : Fin 8) : sProp 𝕄 :=
  iprop(owns (c : Thread nD τ) (comm 0 i) (fullShare : PosShare TreeShare).right (eTile m c i) ∗ cred (tallyAt (sendCell c i) () Nt))
/-- Tile `i` when the first `n` tiles are sent. -/
def tileA (n : ℕ) (i : Fin 8) : sProp 𝕄 := if n ≤ i.val then unsent c i else sent m c i

/-- Place `j` of half `b`, as a place of the tile. -/
def hEmb (b : Fin 2) (j : S2048x512.Idx) : S2048x1024.Idx := (halfR b).emb j

/-- The tile buffer: before an odd trip its left half holds the chunk before. -/
def ePart (n : ℕ) : sProp 𝕄 :=
  iprop(∃ f : S2048x1024.Idx → F .f32, ⌜∀ k : Fin 16, n = k.val + 1 → n % 2 = 1 → ∀ j, f (hEmb 0 j) = ech m c k j⌝
    ∗ (((c : Thread nD τ).loc cc0_scratch1) ↦{fullShare} f))

def dueA (n : ℕ) : sProp 𝕄 := iprop(∃ W, owes (c : Thread nD τ) (Od c n) W)

/-- Before trip `n`. -/
def invA (n : ℕ) : sProp 𝕄 :=
  iprop(records m K ∗ levAts L lv ∗ xPts m c ∗ sPts c (sumN m c n) ∗ ePart m c n ∗ nextSlot m c n ∗ idle m c (par (n + 1))
    ∗ semVal ((c : Thread nD τ), .dma copyQ) 0 ∗ bigSep Finset.univ (tileA m c (n / 2)) ∗ dueA c (n / 2))

/-! ## A trip -/

/-- The first loop's trip, on the kernel's buffers. -/
abbrev trip1 (v5 v8 v9 c0 : BitVec 32) : Fin k0_t1_loop.trips → Unit → Prog (TpuEff nD τ sig (Elt F) Λ₀ .tc) Unit :=
  k0_t1_body (F := F) xM (Memref.isWhole_whole _) wM (Memref.isWhole_whole _) oM (Memref.isWhole_whole _) cM (Memref.isWhole_whole _)
    bM (Memref.isWhole_whole _) eM (Memref.isWhole_whole _) sM (Memref.isWhole_whole _) pM (Memref.isWhole_whole _)
    cc0_scratch4 cc0_scratch5 cc0_scratch6 cc0_scratch7 cc0_scratch8 cc0_scratch9 c v5 v8 v9 c0

def kA (k : Fin k0_t1_loop.trips) : Fin 16 := ⟨k.val, lt_of_lt_of_eq k.isLt trips1⟩

theorem nextSlot_lt {n : ℕ} (h : n < 16) : nextSlot m c n = flying m c (par n) ⟨n, h⟩ := dif_pos h
theorem nextSlot_last : nextSlot m c 16 = idle m c (par 16) := dif_neg (by decide)
theorem par_add_two (n : ℕ) : par (n + 1 + 1) = par n := Fin.ext (by show (n + 1 + 1) % 2 = n % 2; omega)

/-- The chunk's part of a trip: the next chunk started, this one awaited, its exponentials added to the row sums. -/
theorem wp_part2 (c0 : BitVec 32) (k : Fin k0_t1_loop.trips) (n : ℕ) :
    iprop(levAts L lv ∗ xPts m c ∗ sPts c (sumN m c k.val) ∗ nextSlot m c k.val ∗ idle m c (par (k.val + 1)) ∗ dueA (F := F) c n)
      ⊢ wp Idealize.ShloMosaic.frame (wpE defs₀ 𝒱₀ (c : Thread nD τ) none) Set.univ
          (k0_part2 (F := F) xM (Memref.isWhole_whole _) wM (Memref.isWhole_whole _) oM (Memref.isWhole_whole _) cM (Memref.isWhole_whole _)
            bM (Memref.isWhole_whole _) eM (Memref.isWhole_whole _) sM (Memref.isWhole_whole _) pM (Memref.isWhole_whole _)
            cc0_scratch4 cc0_scratch5 cc0_scratch6 cc0_scratch7 cc0_scratch8 cc0_scratch9 c0 1#32 k)
          (fun r => iprop(⌜r.2.1 = ech m c (kA k)⌝ ∗ xPts m c ∗ sPts c (sumN m c (k.val + 1)) ∗ nextSlot m c (k.val + 1)
            ∗ idle m c (par (k.val + 1 + 1)) ∗ dueA (F := F) c n)) := by
  have hk : k.val < 16 := (kA k).isLt
  rw [nextSlot_lt m c hk, par_add_two]
  have e4 : k0_off4 k = ![(par k.val).val] := k0_off4_eq k
  have e5 : k0_off5 k = ![(par k.val).val, 0, 0] := k0_off5_eq k
  have e7 : k0_off7 k = ![(par k.val).val, 0, 0] := k0_off7_eq k
  have e1 : k0_off1 k = ![(par (k.val + 1)).val] := by
    rw [k0_off1_eq k]; show ![1 - k.val % 2] = ![(k.val + 1) % 2]; congr 1; omega
  have e2 : k0_off2 k = ![(par (k.val + 1)).val, 0, 0] := by
    rw [k0_off2_eq k]; show ![1 - k.val % 2, 0, 0] = ![(k.val + 1) % 2, 0, 0]; congr 1; omega
  rw [k0_part2_eq_skeleton]
  unfold k0_part2_skel
  simp only [Prog.lift, Prog.bind_op, Prog.bind_ret, Prog.pure_eq_ret]
  iintro ⟨#Hlev, Hx, Hs, Hf, Hi, Hd⟩
  unfold dueA
  icases Hd with ⟨%W, Hd⟩
  have hsum : sumN m c (k.val + 1) = _ := sumN_succ m c (kA k)
  by_cases h1 : k0_cond1 k = 1#1
  case' pos =>
    have hk1 : k.val + 1 < 16 := (cond1_iff k).mp h1
    rw [dif_pos h1, nextSlot_lt m c hk1]
    simp only [Prog.bind_op, Prog.bind_ret, wch_of (⟨k.val + 1, hk1⟩ : Fin 16) (k0_off3_eq k), slot_of (par (k.val + 1)) e2, slotQ_of (par (k.val + 1)) e1,
      wch_of (kA k) (k0_off6_eq k), slot_of (par k.val) e5, slotQ_of (par k.val) e4]
    unfold idle
    icases Hi with ⟨Hsl, Hw, Hv⟩
    iapply (start_copy EC 𝒱₀ (c : Thread nD τ) none (src := wch ⟨k.val + 1, hk1⟩) (dst := slot (par (k.val + 1))) (q := shr (par (k.val + 1)))
      (sm := .dma (slotQ (par (k.val + 1)))) (fs := m ((c : Thread nD τ).loc main_arg1)) () Nw (slot_credit (par (k.val + 1))) Nw_pos (Finset.subset_univ _)) $$ [Hsl Hw Hv]
    · unfold wPts
      isplitl [Hw]; · iexact Hw
      isplitl [Hsl]; · iexact Hsl
      iexact Hv
    iintro Hn
  case' neg =>
    have hk1 : k.val + 1 = 16 := Nat.le_antisymm hk (Nat.not_lt.mp fun h => h1 ((cond1_iff k).mpr h))
    rw [dif_neg h1, show nextSlot m c (k.val + 1) = idle m c (par (k.val + 1)) by rw [hk1, nextSlot_last]]
    simp only [Prog.bind_op, Prog.bind_ret,
      wch_of (kA k) (k0_off6_eq k), slot_of (par k.val) e5, slotQ_of (par k.val) e4]
    irename Hi => Hn
  all_goals
    unfold flying
    iapply (Transfers.wp_waitLocalO EC 𝒱₀ (c : Thread nD τ) none () (slot_credit (par k.val))) $$ [Hf Hd]
    · isplitl [Hf]; · iexact Hf
      isplitl [Hd]; · iexact Hd
      iapply (mayWait_due (F := F) c (.dma (slotQ (par k.val))) (by rw [lvS_slot]; decide) n) $$ Hlev
    iintro ⟨⟨Ho, Hw⟩, Hv, Hd⟩
    unfold xPts sPts
    iapply (wp_load 𝒱₀ (c : Thread nD τ) none Set.univ (m := xM) (Finset.subset_univ _)) $$ Hx
    iintro Hx
    rw [read_x]
    rw [← slot_of (hi := k0_off7_inb k) (hr := fun _ => rfl) (hq := squeezes_S1x4096x512_S4096x512) (par k.val) e7]
    iapply (load_squeezed 𝒱₀ (c : Thread nD τ) none) $$ Ho
    iintro Ho
    iapply (wp_load 𝒱₀ (c : Thread nD τ) none Set.univ (m := sM) (Finset.subset_univ _)) $$ Hs
    iintro Hs
    iapply (wp_load 𝒱₀ (c : Thread nD τ) none Set.univ (m := sM) (Finset.subset_univ _)) $$ Hs
    iintro Hs
    iapply (wp_store 𝒱₀ (c : Thread nD τ) none Set.univ (m := sM) (r := Rect.unit (s := S2048x1) ![0, 0] S2048x1.size inb_S2048x1_S2048x1_0_0) (Mk := Finset.univ) (Finset.subset_univ _)) $$ Hs
    iintro Hs
    rw [write_s, read_s, wp_ret]
    imodintro
    isplitr; · ipureintro; rfl
    isplitl [Hx]; · iexact Hx
    isplitl [Hs]; · rw [hsum]; iexact Hs
    isplitl [Hn]; · iexact Hn
    isplitl [Ho Hw Hv]
    · rw [slot_of (hi := k0_off7_inb k) (hr := fun _ => rfl) (hq := squeezes_S1x4096x512_S4096x512) (par k.val) e7]
      try unfold idle
      isplitl [Ho]
      · iapply (owns_held (c : Thread nD τ) (slot (par k.val)))
        iexact Ho
      isplitl [Hw]; · iexact Hw
      iexact Hv
    iexists _; iexact Hd

/-! ## The tile buffer's two halves -/

theorem pay1_eq (v : S2048x512.Idx → F .f32) : k0_pay1 v = v := funext fun j => congrArg v (Shape.reshapeEquiv_self _ j)

/-- The store of half `b`. -/
def storeHalf (b : Fin 2) (f : S2048x1024.Idx → F .f32) (v : S2048x512.Idx → F .f32) : S2048x1024.Idx → F .f32 :=
  ((eM : Memref sig .tc .vmem S2048x1024 .f32).access (halfR b)).write (Elt F) f v Finset.univ

theorem storeHalf_of {off : Fin 2 → Nat} {hi} (b : Fin 2) (e : off = ![0, 512 * b.val]) (f : S2048x1024.Idx → F .f32) (v : S2048x512.Idx → F .f32) :
    ((eM : Memref sig .tc .vmem S2048x1024 .f32).access (Rect.unit (s := S2048x1024) off S2048x512.size hi)).write (Elt F) f v Finset.univ = storeHalf b f v := by
  subst e; rfl

theorem storeHalf_same (b : Fin 2) (f : S2048x1024.Idx → F .f32) (v : S2048x512.Idx → F .f32) (j : S2048x512.Idx) :
    storeHalf b f v (hEmb b j) = v j :=
  View.write_emb_of_mem _ _ (Finset.mem_univ j)

theorem halfR_col (b : Fin 2) (j : S2048x512.Idx) : (hEmb b j 1).val = 512 * b.val + (j 1).val := by
  show 512 * b.val + 1 * (j 1).val = _
  omega
theorem halfR_row (b : Fin 2) (j : S2048x512.Idx) : (hEmb b j 0).val = (j 0).val := by
  show 0 + 1 * (j 0).val = _
  omega

theorem storeHalf_other (b b' : Fin 2) (hb : b' ≠ b) (f : S2048x1024.Idx → F .f32) (v : S2048x512.Idx → F .f32) (j : S2048x512.Idx) :
    storeHalf b f v (hEmb b' j) = f (hEmb b' j) := by
  refine View.write_of_not_mem _ _ _ ?_
  intro h
  obtain ⟨j', -, hj⟩ := Finset.mem_map.mp h
  have h1 : (hEmb b j' 1).val = (hEmb b' j 1).val := congrArg (fun p : S2048x1024.Idx => (p 1).val) hj
  have h1 := (halfR_col b j').symm.trans (h1.trans (halfR_col b' j))
  have a1 : (j' 1).val < 512 := (j' 1).isLt
  have a2 : (j 1).val < 512 := (j 1).isLt
  exact hb (Fin.ext (by omega))

/-- Every place of a tile is a place of the half its column is in. -/
theorem emb_inHalf (p : S2048x1024.Idx) : hEmb (⟨(p 1).val / 512, by have : (p 1).val < 1024 := (p 1).isLt; omega⟩) (inHalf p) = p := by
  funext a
  apply Fin.ext
  fin_cases a
  · refine (halfR_row _ _).trans ?_
    show (p 0).val % 2048 = (p 0).val
    exact Nat.mod_eq_of_lt (p 0).isLt
  · refine (halfR_col _ _).trans ?_
    show 512 * ((p 1).val / 512) + (p 1).val % 512 = (p 1).val
    omega

/-- A buffer whose halves hold the tile's two chunks holds the tile. -/
theorem eTile_of (i : Fin 8) (f : S2048x1024.Idx → F .f32) (h0 : ∀ j, f (hEmb 0 j) = ech m c ⟨2 * i.val, by omega⟩ j)
    (h1 : ∀ j, f (hEmb 1 j) = ech m c ⟨2 * i.val + 1, by omega⟩ j) : f = eTile m c i := by
  funext p
  have hp : (p 1).val < 1024 := (p 1).isLt
  have e := emb_inHalf p
  unfold eTile
  rcases Nat.lt_or_ge (p 1).val 512 with hlt | hge
  · have hd : (p 1).val / 512 = 0 := Nat.div_eq_of_lt hlt
    have hb : (⟨(p 1).val / 512, by omega⟩ : Fin 2) = 0 := Fin.ext hd
    rw [hb] at e
    rw [← congrArg f e, h0]
    congr 1; exact Fin.ext (by simp only [hd, Nat.add_zero])
  · have hd : (p 1).val / 512 = 1 := by omega
    have hb : (⟨(p 1).val / 512, by omega⟩ : Fin 2) = 1 := Fin.ext hd
    rw [hb] at e
    rw [← congrArg f e, h1]
    congr 1; exact Fin.ext (by simp only [hd])

end Softmax
-- ==== Proof.PhaseA.lean ====
/-
  The first loop's trip, whole: the chunk's part, the store of its exponentials into their half of
  the tile buffer and, every second trip, the tile written out and sent to the peer.
-/
module

public import proofs.«01_k».proof.Proof.Chunk

@[expose] public section

noncomputable section

namespace Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Transfers (Flight)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## A whole trip -/

theorem tileA_before (ti : Fin 8) : tileA m c ti.val ti = unsent c ti := if_pos (Nat.le_refl _)
theorem tileA_after (ti : Fin 8) : tileA m c (ti.val + 1) ti = sent m c ti := if_neg (by omega)
theorem tileA_other (ti j : Fin 8) (h : j ≠ ti) : tileA m c ti.val j = tileA m c (ti.val + 1) j := by
  unfold tileA
  have hne : j.val ≠ ti.val := fun e => h (Fin.ext e)
  by_cases hle : ti.val ≤ j.val
  · rw [if_pos hle, if_pos (by omega)]
  · rw [if_neg hle, if_neg (by omega)]

theorem owns_of_whole (t : Thread nD τ) (b : Ref sig t.2.kind) (q : PosShare TreeShare) (f : b.ty.Contents (Elt F)) :
    ((t.loc b) ↦{q} f : sProp 𝕄) ⊢ owns t (Memref.whole b) q f := Entails.of_eq (owns_whole t b q f).symm
theorem whole_of_owns (t : Thread nD τ) (b : Ref sig t.2.kind) (q : PosShare TreeShare) (f : b.ty.Contents (Elt F)) :
    (owns t (Memref.whole b) q f : sProp 𝕄) ⊢ ((t.loc b) ↦{q} f) := Entails.of_eq (owns_whole t b q f)

theorem inv_recv {d : Dev nD} (hd : d = peer c) (i : Fin 8) :
    records m K ⊢ cellInv ER (Rd m) (K (peer c, .inr (.inr i))) (recvCell d i) := by subst hd; exact inv_at m K (peer c) (.inr (.inr i))
theorem reached_recv {d : Dev nD} (hd : d = peer c) (i : Fin 8) : records m K ⊢ (reached ER (recvCell d i) 0 : sProp 𝕄) := by
  subst hd; exact reached_at m K (peer c) (.inr (.inr i))
theorem recv_duty {d : Dev nD} (hd : d = peer c) (i : Fin 8) : () ∈ (Rd m).duties (recvCell d i) 0 := by
  subst hd
  rw [duties_of m (ring_recv (peer c) i)]; exact Finset.mem_singleton_self _
theorem recv_due {d : Dev nD} (hd : d = peer c) (i : Fin 8) :
    Od c i.val = Od c (i.val + 1) + tallyAt (recvCell d i) () Nt := by subst hd; exact Od_step c i
theorem recv_pay {d : Dev nD} (hd : d = peer c) (i : Fin 8) :
    owns (d : Thread nD τ) (comm 1 i) fullShare (eTile m c i) = (Rd m).payload (recvCell d i) 0 () := by
  subst hd
  show _ = payOf m (recvCell (peer c) i)
  rw [pay_recv]; unfold recvPay; rw [peer_peer]

theorem stepA (v5 v8 v9 c0 : BitVec 32) (k : Fin k0_t1_loop.trips) :
    invA m K c k.val ⊢ wp Idealize.ShloMosaic.frame (wpE defs₀ 𝒱₀ (c : Thread nD τ) none) Set.univ (trip1 c v5 v8 v9 c0 k ()) (fun _ => invA m K c (k.val + 1)) := by
  have hk : k.val < 16 := (kA k).isLt
  unfold trip1 k0_t1_body
  rw [wp_bind]
  unfold invA
  iintro ⟨#Hrec, #Hlev, Hx, Hs, He, Hn, Hi, Hc, Ht, Hd⟩
  iapply (wp_wand_r _ _ _)
  isplitl [Hx Hs Hn Hi Hd]
  · iapply (wp_part2 m c c0 k (k.val / 2))
    isplitr; · iexact Hlev
    isplitl [Hx]; · iexact Hx
    isplitl [Hs]; · iexact Hs
    isplitl [Hn]; · iexact Hn
    isplitl [Hi]; · iexact Hi
    iexact Hd
  iintro %r ⟨%hr, Hx, Hs, Hn, Hi, Hd⟩
  obtain ⟨a0, v65, a1, a2, a3, a4⟩ := r
  have hr : v65 = ech m c (kA k) := hr
  subst hr
  dsimp only
  simp only [k0_part1_eq_skeleton]
  unfold k0_part1_skel
  simp only [Prog.lift, Prog.bind_op, Prog.bind_ret, Prog.pure_eq_ret]
  unfold ePart
  icases He with ⟨%f, %hf, He⟩
  iapply (wp_load 𝒱₀ (c : Thread nD τ) none Set.univ (m := eM) (Finset.subset_univ _)) $$ He
  iintro He
  iapply (wp_store 𝒱₀ (c : Thread nD τ) none Set.univ (m := eM) (r := Rect.unit (s := S2048x1024) (k0_off8 k) S2048x512.size (k0_off8_inb k)) (Mk := Finset.univ) (Finset.subset_univ _)) $$ He
  iintro He
  rw [pay1_eq, storeHalf_of (par k.val) (off8_eq k)]
  by_cases h2 : k0_cond2 k = 1#1
  · have hodd : k.val % 2 = 1 := (cond2_iff k).mp h2
    have hti : k.val / 2 < 8 := by omega
    obtain ⟨ti, ht⟩ : ∃ ti : Fin 8, ti.val = k.val / 2 := ⟨⟨k.val / 2, hti⟩, rfl⟩
    have e9 : k0_off9 k = ![((0 : Fin 2) : ℕ), ti.val, 0, 0] := by rw [ht]; exact off9_eq k h2
    have e11 : k0_off11 k = ![((1 : Fin 2) : ℕ), ti.val, 0, 0] := by rw [ht]; exact off11_eq k h2
    have e10 : k0_off10 k = ![ti.val] := by rw [ht]; exact off10_eq k h2
    have hnext : (k.val + 1) / 2 = ti.val + 1 := by omega
    have hfull : storeHalf (par k.val) f (ech m c (kA k)) = eTile m c ti := by
      have hb : par k.val = 1 := Fin.ext hodd
      rw [hb]
      refine eTile_of m c ti _ (fun j => ?_) (fun j => ?_)
      · rw [storeHalf_other 1 0 (by decide)]
        exact hf ⟨2 * ti.val, by omega⟩ (by show k.val = 2 * ti.val + 1; omega) hodd j
      · rw [storeHalf_same]
        congr 1; exact Fin.ext (by show k.val = 2 * ti.val + 1; omega)
    rw [dif_pos h2, hfull, hnext, ← ht]
    simp only [comm_of 0 ti e9, comm_of 1 ti e11, sendQ_of ti e10, recvQ_of ti e10, copyQ_eq]
    have hp := dev2_eq c k h2
    have hsw := bigSep_swap (tileA m c ti.val) (tileA m c (ti.val + 1)) ti (tileA_other m c ti)
    rw [tileA_before, tileA_after] at hsw
    unfold unsent sent at hsw
    ihave Ht := hsw $$ Ht
    icases Ht with ⟨Hti, Ht⟩
    unfold dueA
    icases Hti with ⟨Hc0, Hc1, Htk, Htk'⟩
    icases Hd with ⟨%W, Hd⟩
    ihave He := (owns_of_whole (c : Thread nD τ) cc0_scratch1 fullShare (eTile m c ti)) $$ He
    iapply (start_copy_owns EC 𝒱₀ (c : Thread nD τ) none (sm := .dma copyQ) () Nt (comm_credit 0 ti) Nt_pos) $$ [He Hc0 Hc]
    · isplitl [He]; · iexact He
      isplitl [Hc0]; · iexact Hc0
      iexact Hc
    iintro Hf
    iapply (Transfers.wp_waitLocalO EC 𝒱₀ (c : Thread nD τ) none () (comm_credit 0 ti)) $$ [Hf Hd]
    · isplitl [Hf]; · iexact Hf
      isplitl [Hd]; · iexact Hd
      iapply (mayWait_due (F := F) c (.dma copyQ) (by rw [lvS_copy]; decide) ti.val) $$ Hlev
    iintro ⟨⟨Hc0, He⟩, Hc, Hd⟩
    ihave He := (whole_of_owns (c : Thread nD τ) cc0_scratch1 fullShare (eTile m c ti)) $$ He
    ihave Hc0 := (owns_halves (c : Thread nD τ) (comm 0 ti) fullShare (eTile m c ti)).1 $$ Hc0
    icases Hc0 with ⟨HL, HR⟩
    ihave #Hi1 := (inv_at m K c (.inr (.inl ti))) $$ Hrec
    ihave #Hi2 := (inv_recv m K c hp ti) $$ Hrec
    ihave #Hr1 := (reached_at m K c (.inr (.inl ti))) $$ Hrec
    ihave #Hr2 := (reached_recv m K c hp ti) $$ Hrec
    ihave Hc1 := (Entails.of_eq (congrArg (fun d : Dev nD => held (d : Thread nD τ) (comm 1 ti)) hp.symm)) $$ Hc1
    ihave Htk' := (Entails.of_eq (congrArg (fun d : Dev nD => dutyTok ER (recvCell d ti) 0 ()) hp.symm)) $$ Htk'
    iapply (send_owns 𝒱₀ (c : Thread nD τ) none ER (Rd m) (c' := ((⟨k0_dev2 c, k0_dev2_lt c k h2⟩ : Dev nD) : Thread nD τ)) (src := comm 0 ti) (dst := comm 1 ti)
      (sS := .dma (sendQ ti)) (sem := .dma (recvQ ti)) (q := (fullShare : PosShare TreeShare).left) (X := eTile m c ti)
      (by rw [duties_of m (ring_send c ti)]; exact Finset.mem_singleton_self _) (recv_duty m c hp ti)
      () Nt (comm_credit 1 ti) (amt_send ti) (amt_recv ti) (Od c (ti.val + 1)) (recv_due c hp ti)
      (Entails.of_eq (pay_send m c ti).symm) (Entails.of_eq (recv_pay m c hp ti)) (by show decide _ = true; simp))
      $$ [HL Hc1 Hd Htk Htk']
    · isplitr; · iexact Hi1
      isplitr; · iexact Hi2
      isplitl [HL]; · iexact HL
      isplitl [Hc1]; · iexact Hc1
      isplitl [Hd]; · iexact Hd
      isplitl [Htk]; · iexact Htk
      isplitr; · iexact Hr1
      isplitl [Htk']; · iexact Htk'
      iexact Hr2
    iintro ⟨Hcr, Hd⟩
    rw [wp_ret]
    imodintro
    isplitr; · iexact Hrec
    isplitr; · iexact Hlev
    isplitl [Hx]; · iexact Hx
    isplitl [Hs]; · iexact Hs
    isplitl [He]
    · iexists (eTile m c ti)
      isplitr
      · ipureintro
        intro k' hk' h _; omega
      iexact He
    isplitl [Hn]; · iexact Hn
    isplitl [Hi]; · iexact Hi
    isplitl [Hc]; · iexact Hc
    isplitl [Ht HR Hcr]
    · iapply Ht
      isplitl [HR]; · iexact HR
      iexact Hcr
    iexists _; iexact Hd
  · have heven : k.val % 2 = 0 := (Nat.mod_two_eq_zero_or_one k.val).resolve_right fun h => h2 ((cond2_iff k).mpr h)
    have hb : par k.val = 0 := Fin.ext heven
    rw [dif_neg h2, wp_ret, hb, show (k.val + 1) / 2 = k.val / 2 by omega]
    imodintro
    isplitr; · iexact Hrec
    isplitr; · iexact Hlev
    isplitl [Hx]; · iexact Hx
    isplitl [Hs]; · iexact Hs
    isplitl [He]
    · iexists (storeHalf 0 f (ech m c (kA k)))
      isplitr
      · ipureintro
        intro k' hk' _ j
        rw [storeHalf_same]
        congr 1; exact Fin.ext (by show k.val = k'.val; omega)
      iexact He
    isplitl [Hn]; · iexact Hn
    isplitl [Hi]; · iexact Hi
    isplitl [Hc]; · iexact Hc
    isplitl [Ht]; · iexact Ht
    iexact Hd

end Softmax
-- ==== Proof.PhaseC.lean ====
/-
  The second loop: a trip reads its own tile back, divides it by the row sums of both devices and
  copies it into the result, waits for the peer's tile and does the same with that one. The third loop
  waits for the copies the device sent.
-/
module

public import proofs.«01_k».proof.Proof.PhaseA

@[expose] public section

noncomputable section

namespace Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Transfers (Flight)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## A wait on a shared cell, after which the cell is closed -/

theorem wait_ring {sp sp' : Space} {s s' : Shape} {e e' : EltTy} {q : DmaSem sig} (κ : ℕ)
    {src : Memref sig .tc sp' s' e'} {dst : Memref sig .tc sp s e} {hsrc : src.view.WordExact} {hdst : dst.view.WordExact}
    {α : Type} {k : PUnit → Prog (TpuEff nD τ sig (Elt F) Λ₀ .tc) α} {Q : α → sProp 𝕄}
    (hr : IsRing ((c : Thread nD τ), SemLoc.dma q)) (N : ℕ) (hN : dst.view.dmaCredit = N) (hA : amt (.dma q) = N) :
    iprop(cellInv ER (Rd m) κ ((c : Thread nD τ), .dma q) ∗ cred (tallyAt ((c : Thread nD τ), .dma q) () N)
        ∗ (∃ W, owes (c : Thread nD τ) 0 W) ∗ atPos ER ((c : Thread nD τ), .dma q) 0 ∅ 0)
      ⊢ iprop(((semVal ((c : Thread nD τ), .dma q) 0 ∗ payOf m ((c : Thread nD τ), .dma q) ∗ ∃ W, owes (c : Thread nD τ) 0 W)
            -∗ wp Idealize.ShloMosaic.frame (wpE defs₀ 𝒱₀ (c : Thread nD τ) none) Set.univ (k ⟨⟩) Q)
          -∗ wp Idealize.ShloMosaic.frame (wpE defs₀ 𝒱₀ (c : Thread nD τ) none) Set.univ (.op (.waitDma2 q src dst hsrc hdst) k) Q) := by
  subst hN
  iintro ⟨#Hi, Hc, ⟨%W, HO⟩, Ha⟩ Hk
  iapply (Rounds.wp_wait_rest_token 𝒱₀ ER (Rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_of m hr]; exact hA.symm)) $$ [Hc HO Ha]
  · isplitr; · iexact Hi
    isplitl [Hc]; · iexact Hc
    isplitl [HO]; · iexact HO
    isplitr; · rw [MayWait_zero]; iempintro
    iexact Ha
  iintro ⟨HO, Ha, -, Hpay⟩
  ihave Hp := (Entails.of_eq (rest_of m hr)) $$ Hpay
  imod (Rounds.cell_close ER (Rd m) (Set.mem_univ κ) (fun h => h) (R := 0 + 1) (duties_later m _)) $$ [Ha] with Hz
  · isplitr; · iexact Hi
    iexact Ha
  iapply Hk
  isplitl [Hz]; · iexact Hz
  isplitl [Hp]; · iexact Hp
  iexists _; iexact HO

/-! ## The second loop -/

/-- The place on mesh axis x. -/
def place (c : Dev nD) : Fin 2 := ⟨c.val / 4, by have : c.val < 8 := c.isLt; omega⟩

/-- A tile before its trip: half the share of the device's own tile, its two places in the result, and what waits for the
    peer's tile; -/
def todo (i : Fin 8) : sProp 𝕄 :=
  iprop(owns (c : Thread nD τ) (comm 0 i) (fullShare : PosShare TreeShare).right (eTile m c i)
    ∗ held (c : Thread nD τ) (outT (place c) i) ∗ held (c : Thread nD τ) (outT (place (peer c)) i)
    ∗ cred (tallyAt (recvCell c i) () Nt) ∗ atPos ER (recvCell c i) 0 ∅ 0)
/-- after: the two tiles of the result, and the receive cell at rest. -/
def doneT (i : Fin 8) : sProp 𝕄 :=
  iprop(owns (c : Thread nD τ) (outT (place c) i) fullShare (ownOut m c i)
    ∗ owns (c : Thread nD τ) (outT (place (peer c)) i) fullShare (peerOut m c i)
    ∗ semVal (recvCell c i) 0)
def tileC (n : ℕ) (i : Fin 8) : sProp 𝕄 := if n ≤ i.val then todo m c i else doneT m c i

theorem tileC_before (i : Fin 8) : tileC m c i.val i = todo m c i := if_pos (Nat.le_refl _)
theorem tileC_after (i : Fin 8) : tileC m c (i.val + 1) i = doneT m c i := if_neg (by omega)
theorem tileC_other (i j : Fin 8) (h : j ≠ i) : tileC m c i.val j = tileC m c (i.val + 1) j := by
  unfold tileC
  have hne : j.val ≠ i.val := fun e => h (Fin.ext e)
  by_cases hle : i.val ≤ j.val
  · rw [if_pos hle, if_pos (by omega)]
  · rw [if_neg hle, if_neg (by omega)]

def freeE : sProp 𝕄 := held (c : Thread nD τ) eM
def due0 : sProp 𝕄 := iprop(∃ W, owes (c : Thread nD τ) 0 W)

/-- Before trip `n`. -/
def invC (n : ℕ) : sProp 𝕄 :=
  iprop(records m K ∗ freeE c ∗ semVal ((c : Thread nD τ), .dma copyQ) 0 ∗ bigSep Finset.univ (tileC m c n) ∗ due0 (F := F) c)

abbrev trip2 (v5 v8 v9 v10 : BitVec 32) : Fin k0_t2_loop.trips → Unit → Prog (TpuEff nD τ sig (Elt F) Λ₀ .tc) Unit :=
  k0_t2_body (F := F) xM (Memref.isWhole_whole _) wM (Memref.isWhole_whole _) oM (Memref.isWhole_whole _) cM (Memref.isWhole_whole _)
    bM (Memref.isWhole_whole _) eM (Memref.isWhole_whole _) sM (Memref.isWhole_whole _) pM (Memref.isWhole_whole _)
    cc0_scratch4 cc0_scratch5 cc0_scratch6 cc0_scratch7 cc0_scratch8 cc0_scratch9 c v5 v8 v9 v10 (sumC m c) (sumC m (peer c))

theorem e_credit : (eM : Memref sig .tc .vmem S2048x1024 .f32).view.dmaCredit = Ne := rfl

theorem stepC (v5 v8 v9 v10 : BitVec 32) (k : Fin k0_t2_loop.trips) :
    invC m K c k.val ⊢ wp Idealize.ShloMosaic.frame (wpE defs₀ 𝒱₀ (c : Thread nD τ) none) Set.univ
      (trip2 m c v5 v8 v9 v10 k ()) (fun _ => invC m K c (k.val + 1)) := by
  obtain ⟨ti, ht⟩ : ∃ ti : Fin 8, ti.val = k.val := ⟨⟨k.val, lt_of_lt_of_eq k.isLt trips2⟩, rfl⟩
  have e12 : k0_off12 k = ![((0 : Fin 2) : ℕ), ti.val, 0, 0] := by rw [ht]; exact k0_off12_eq k
  have e15 : k0_off15 k = ![((1 : Fin 2) : ℕ), ti.val, 0, 0] := by rw [ht]; exact k0_off15_eq k
  have e14 : k0_off14 k = ![ti.val] := by rw [ht]; exact k0_off14_eq k
  have e13 : k0_off13 c k = ![0, 8192 * (place c).val + 1024 * ti.val] := by rw [ht]; exact k0_off13_eq c k
  have e16 : k0_off16 c k = ![0, 8192 * (place (peer c)).val + 1024 * ti.val] := by
    rw [ht, k0_off16_eq c k]
    have h := peer_place c
    have h2 : c.val / 4 < 2 := (place c).isLt
    have e : (place (peer c)).val = 1 - c.val / 4 := h
    rw [e]; congr 2; omega
  unfold trip2 k0_t2_body
  simp only [k0_part3_eq_skeleton]
  unfold k0_part3_skel
  simp only [Prog.lift, Prog.bind_op, Prog.bind_ret, Prog.pure_eq_ret]
  simp only [comm_of 0 ti e12, comm_of 1 ti e15, recvQ_of ti e14, copyQ_eq, outT_of (place c) ti e13, outT_of (place (peer c)) ti e16]
  unfold invC
  rw [← ht]
  iintro ⟨#Hrec, He, Hc, Ht, Hd⟩
  have hsw := bigSep_swap (tileC m c ti.val) (tileC m c (ti.val + 1)) ti (tileC_other m c ti)
  rw [tileC_before, tileC_after] at hsw
  unfold todo doneT at hsw
  ihave Ht := hsw $$ Ht
  icases Ht with ⟨⟨Hm, Ho, Hp, Hcr, Ha⟩, Ht⟩
  unfold due0 freeE
  ihave #Hi := (inv_at m K c (.inr (.inr ti))) $$ Hrec
  icases Hd with ⟨%W, Hd⟩
  -- the device's own tile, back
  iapply (start_copy_owns EC 𝒱₀ (c : Thread nD τ) none (sm := .dma copyQ) () Ne e_credit Ne_pos) $$ [Hm He Hc]
  · isplitl [Hm]; · iexact Hm
    isplitl [He]; · iexact He
    iexact Hc
  iintro Hf
  iapply (Transfers.wp_waitLocalO EC 𝒱₀ (c : Thread nD τ) none () e_credit) $$ [Hf Hd]
  · isplitl [Hf]; · iexact Hf
    isplitl [Hd]; · iexact Hd
    rw [MayWait_zero]; iempintro
  iintro ⟨⟨He, Hm⟩, Hc, Hd⟩
  ihave He := (whole_of_owns (c : Thread nD τ) cc0_scratch1 fullShare (eTile m c ti)) $$ He
  iapply (wp_load 𝒱₀ (c : Thread nD τ) none Set.univ (m := eM) (Finset.subset_univ _)) $$ He
  iintro He
  iapply (wp_load 𝒱₀ (c : Thread nD τ) none Set.univ (m := eM) (Finset.subset_univ _)) $$ He
  iintro He
  iapply (wp_store 𝒱₀ (c : Thread nD τ) none Set.univ (m := eM) (r := Rect.unit (s := S2048x1024) ![0, 0] S2048x1024.size inb_S2048x1024_S2048x1024_0_0) (Mk := Finset.univ) (Finset.subset_univ _)) $$ He
  iintro He
  rw [write_e, read_e, show k0_pay6 (k0_pay2 (sumC m c) (sumC m (peer c))) (eTile m c ti) = ownOut m c ti from rfl]
  -- into the result
  ihave He := (owns_of_whole (c : Thread nD τ) cc0_scratch1 fullShare (ownOut m c ti)) $$ He
  iapply (start_copy_owns EC 𝒱₀ (c : Thread nD τ) none (sm := .dma copyQ) () No (outT_credit (place c) ti) No_pos) $$ [He Ho Hc]
  · isplitl [He]; · iexact He
    isplitl [Ho]; · iexact Ho
    iexact Hc
  iintro Hf
  iapply (Transfers.wp_waitLocalO EC 𝒱₀ (c : Thread nD τ) none () (outT_credit (place c) ti)) $$ [Hf Hd]
  · isplitl [Hf]; · iexact Hf
    isplitl [Hd]; · iexact Hd
    rw [MayWait_zero]; iempintro
  iintro ⟨⟨Ho, He⟩, Hc, Hd⟩
  -- the peer's tile
  iapply (wait_ring m c (K (c, .inr (.inr ti))) (ring_recv c ti) Nt (comm_credit 1 ti) (amt_recv ti)) $$ [Hcr Hd Ha]
  · isplitr; · iexact Hi
    isplitl [Hcr]; · iexact Hcr
    isplitl [Hd]; · iexists _; iexact Hd
    iexact Ha
  iintro ⟨Hz, Hpay, ⟨%W', Hd⟩⟩
  ihave Hpay := (Entails.of_eq (pay_recv m c ti)) $$ Hpay
  unfold recvPay
  ihave He := (owns_held (c : Thread nD τ) eM) $$ He
  iapply (start_copy_owns EC 𝒱₀ (c : Thread nD τ) none (sm := .dma copyQ) () Ne e_credit Ne_pos) $$ [Hpay He Hc]
  · isplitl [Hpay]; · iexact Hpay
    isplitl [He]; · iexact He
    iexact Hc
  iintro Hf
  iapply (Transfers.wp_waitLocalO EC 𝒱₀ (c : Thread nD τ) none () e_credit) $$ [Hf Hd]
  · isplitl [Hf]; · iexact Hf
    isplitl [Hd]; · iexact Hd
    rw [MayWait_zero]; iempintro
  iintro ⟨⟨He, -⟩, Hc, Hd⟩
  ihave He := (whole_of_owns (c : Thread nD τ) cc0_scratch1 fullShare (eTile m (peer c) ti)) $$ He
  iapply (wp_load 𝒱₀ (c : Thread nD τ) none Set.univ (m := eM) (Finset.subset_univ _)) $$ He
  iintro He
  iapply (wp_load 𝒱₀ (c : Thread nD τ) none Set.univ (m := eM) (Finset.subset_univ _)) $$ He
  iintro He
  iapply (wp_store 𝒱₀ (c : Thread nD τ) none Set.univ (m := eM) (r := Rect.unit (s := S2048x1024) ![0, 0] S2048x1024.size inb_S2048x1024_S2048x1024_0_0) (Mk := Finset.univ) (Finset.subset_univ _)) $$ He
  iintro He
  rw [write_e, read_e, show k0_pay3 (sumC m c) (sumC m (peer c)) (eTile m (peer c) ti) = peerOut m c ti from rfl]
  ihave He := (owns_of_whole (c : Thread nD τ) cc0_scratch1 fullShare (peerOut m c ti)) $$ He
  iapply (start_copy_owns EC 𝒱₀ (c : Thread nD τ) none (sm := .dma copyQ) () No (outT_credit (place (peer c)) ti) No_pos) $$ [He Hp Hc]
  · isplitl [He]; · iexact He
    isplitl [Hp]; · iexact Hp
    iexact Hc
  iintro Hf
  iapply (Transfers.wp_waitLocalO EC 𝒱₀ (c : Thread nD τ) none () (outT_credit (place (peer c)) ti)) $$ [Hf Hd]
  · isplitl [Hf]; · iexact Hf
    isplitl [Hd]; · iexact Hd
    rw [MayWait_zero]; iempintro
  iintro ⟨⟨Hp, He⟩, Hc, Hd⟩
  rw [wp_ret]
  imodintro
  isplitr; · iexact Hrec
  isplitl [He]; · iapply (owns_held (c : Thread nD τ) eM); iexact He
  isplitl [Hc]; · iexact Hc
  isplitl [Ht Ho Hp Hz]
  · iapply Ht
    isplitl [Ho]; · iexact Ho
    isplitl [Hp]; · iexact Hp
    iexact Hz
  iexists _; iexact Hd

/-! ## The third loop -/

/-- A send before it is awaited, and after. -/
def sendN (n : ℕ) (i : Fin 8) : sProp 𝕄 :=
  if n ≤ i.val then iprop(cred (tallyAt (sendCell c i) () Nt) ∗ atPos ER (sendCell c i) 0 ∅ 0) else semVal (sendCell c i) 0

theorem sendN_before (i : Fin 8) : (sendN c i.val i : sProp 𝕄) = iprop(cred (tallyAt (sendCell c i) () Nt) ∗ atPos ER (sendCell c i) 0 ∅ 0) :=
  if_pos (Nat.le_refl _)
theorem sendN_after (i : Fin 8) : (sendN c (i.val + 1) i : sProp 𝕄) = semVal (sendCell c i) 0 := if_neg (by omega)
theorem sendN_other (i j : Fin 8) (h : j ≠ i) : (sendN c i.val j : sProp 𝕄) = sendN c (i.val + 1) j := by
  unfold sendN
  have hne : j.val ≠ i.val := fun e => h (Fin.ext e)
  by_cases hle : i.val ≤ j.val
  · rw [if_pos hle, if_pos (by omega)]
  · rw [if_neg hle, if_neg (by omega)]

def invD (n : ℕ) : sProp 𝕄 := iprop(records m K ∗ bigSep Finset.univ (sendN (F := F) c n) ∗ due0 (F := F) c)

abbrev trip3 : Fin k0_t3_loop.trips → Unit → Prog (TpuEff nD τ sig (Elt F) Λ₀ .tc) Unit :=
  k0_t3_body (F := F) xM (Memref.isWhole_whole _) wM (Memref.isWhole_whole _) oM (Memref.isWhole_whole _) cM (Memref.isWhole_whole _)
    bM (Memref.isWhole_whole _) eM (Memref.isWhole_whole _) sM (Memref.isWhole_whole _) pM (Memref.isWhole_whole _)
    cc0_scratch4 cc0_scratch5 cc0_scratch6 cc0_scratch7 cc0_scratch8 cc0_scratch9

theorem stepD (k : Fin k0_t3_loop.trips) :
    invD m K c k.val ⊢ wp Idealize.ShloMosaic.frame (wpE defs₀ 𝒱₀ (c : Thread nD τ) none) Set.univ
      (trip3 k ()) (fun _ => invD m K c (k.val + 1)) := by
  obtain ⟨ti, ht⟩ : ∃ ti : Fin 8, ti.val = k.val := ⟨⟨k.val, lt_of_lt_of_eq k.isLt trips3⟩, rfl⟩
  have e18 : k0_off18 k = ![((0 : Fin 2) : ℕ), ti.val, 0, 0] := by rw [ht]; exact k0_off18_eq k
  have e19 : k0_off19 k = ![((1 : Fin 2) : ℕ), ti.val, 0, 0] := by rw [ht]; exact k0_off19_eq k
  have e17 : k0_off17 k = ![ti.val] := by rw [ht]; exact k0_off17_eq k
  unfold trip3 k0_t3_body
  simp only [Prog.lift, Prog.bind_op, Prog.bind_ret, Prog.pure_eq_ret]
  simp only [comm_of 0 ti e18, comm_of 1 ti e19, sendQ_of ti e17]
  unfold invD
  rw [← ht]
  iintro ⟨#Hrec, Ht, Hd⟩
  have hsw := bigSep_swap (sendN (F := F) c ti.val) (sendN (F := F) c (ti.val + 1)) ti (sendN_other c ti)
  rw [sendN_before, sendN_after] at hsw
  ihave Ht := hsw $$ Ht
  icases Ht with ⟨⟨Hcr, Ha⟩, Ht⟩
  ihave #Hi := (inv_at m K c (.inr (.inl ti))) $$ Hrec
  unfold due0
  iapply (wait_ring m c (K (c, .inr (.inl ti))) (ring_send c ti) Nt (comm_credit 0 ti) (amt_send ti)) $$ [Hcr Hd Ha]
  · isplitr; · iexact Hi
    isplitl [Hcr]; · iexact Hcr
    isplitl [Hd]; · iexact Hd
    iexact Ha
  iintro ⟨Hz, -, Hd⟩
  rw [wp_ret]
  imodintro
  isplitr; · iexact Hrec
  isplitl [Ht Hz]
  · iapply Ht
    iexact Hz
  iexact Hd

end Softmax
-- ==== Proof.Tiles.lean ====
/-
  The kernel's buffers cut into the tiles its copies move, and put together again: the two slots of the
  chunk buffer, the sixteen tiles of the exchange buffer, the sixteen tiles of the result.
-/
module

public import proofs.«01_k».proof.Proof.PhaseC

@[expose] public section

noncomputable section

namespace Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Transfers (Flight)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## A memref held in parts -/

section parts

variable (t : Thread nD τ) {sp : Space} {sh : Shape} {e : EltTy} (M : Memref sig t.2.kind sp sh e)

theorem held_of_squeeze {s' : Shape} (h : sh.Squeezes s') : (held t (M.squeeze s' h) : sProp 𝕄) ⊢ held t M := by
  iintro H
  ihave H := (held_pts t (M.squeeze s' h)) $$ H
  icases H with ⟨%f, H⟩
  iapply (owns_held t M (M.view.read (Elt F) f))
  iapply (owns_intro t M fullShare f)
  simp only [Memref.view_squeeze, View.set_reshape]
  iexact H

theorem held_squeeze {s' : Shape} (h : sh.Squeezes s') : (held t M : sProp 𝕄) ⊢ held t (M.squeeze s' h) := by
  iintro H
  ihave H := (held_pts t M) $$ H
  icases H with ⟨%f, H⟩
  iapply (owns_held t (M.squeeze s' h) ((M.squeeze s' h).view.read (Elt F) f))
  iapply (owns_intro t (M.squeeze s' h) fullShare f)
  simp only [Memref.view_squeeze, View.set_reshape]
  iexact H

variable {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

theorem held_rects : (held t M : sProp 𝕄) ⊢ bigSep Finset.univ fun i => held t (M.slice (r i) (hr i)) := by
  unfold held
  iintro ⟨%X, H⟩
  ihave H := (owns_rects t M fullShare r hr hd hcov X) $$ H
  have hm : bigSep (Finset.univ : Finset T) (fun i => owns t (M.slice (r i) (hr i)) fullShare (fun j => X ((r i).emb j)))
      ⊢ (bigSep Finset.univ fun i => iprop(∃ X, owns t (M.slice (r i) (hr i)) fullShare X) : sProp 𝕄) :=
    bigSep_mono fun i _ => owns_held t _ _
  iapply hm
  iexact H

theorem held_of_rects : bigSep Finset.univ (fun i => (held t (M.slice (r i) (hr i)) : sProp 𝕄)) ⊢ held t M := by
  unfold held
  iintro H
  ihave H := (BI.bigSep_exists_pi Finset.univ (fun i (X : (r i).shape.Idx → Elt F e) => (owns t (M.slice (r i) (hr i)) fullShare X : sProp 𝕄))) $$ H
  icases H with ⟨%X, H⟩
  iexists (Rect.glue r hcov X)
  iapply (owns_of_rects t M fullShare r hr hd hcov (Rect.glue r hcov X))
  rw [bigSep_congr (fun i _ => congrArg (owns t (M.slice (r i) (hr i)) fullShare) (funext fun j => Rect.glue_emb r hcov hd X i j))]
  iexact H

theorem owns_of_parts (X : sh.Idx → Elt F e) (Y : (i : T) → (r i).shape.Idx → Elt F e) (hY : ∀ i j, X ((r i).emb j) = Y i j) :
    bigSep Finset.univ (fun i => (owns t (M.slice (r i) (hr i)) fullShare (Y i) : sProp 𝕄)) ⊢ owns t M fullShare X := by
  rw [bigSep_congr (fun i _ => congrArg (owns t (M.slice (r i) (hr i)) fullShare) (funext fun j => (hY i j).symm))]
  exact owns_of_rects t M fullShare r hr hd hcov X

end parts

/-! ## The chunk buffer's slots -/

def slotR (s : Fin 2) : Rect S2x4096x512 := Rect.unit (s := S2x4096x512) ![s.val, 0, 0] S1x4096x512.size (slot_inb s)

theorem slot_disj : ∀ s s' : Fin 2, s ≠ s' → Disjoint (slotR s).set (slotR s').set := fun s s' h =>
  Rect.unit_disjoint 0 (by show s.val + 1 ≤ s'.val ∨ s'.val + 1 ≤ s.val; have : s.val ≠ s'.val := fun e => h (Fin.ext e); omega)

theorem slot_cov : (Finset.univ : Finset (Fin 2)).biUnion (fun s => (slotR s).set) = Finset.univ := by
  ext p
  simp only [Finset.mem_biUnion, Finset.mem_univ, true_and, iff_true]
  have h0 : (p 0).val < 2 := (p 0).isLt
  refine ⟨⟨(p 0).val, h0⟩, Rect.mem_set_unit.mpr fun a => ?_⟩
  fin_cases a
  · exact ⟨Nat.le_refl _, Nat.lt_succ_self _⟩
  · exact ⟨Nat.zero_le _, (p 1).isLt.trans_eq (Nat.zero_add 4096).symm⟩
  · exact ⟨Nat.zero_le _, (p 2).isLt.trans_eq (Nat.zero_add 512).symm⟩

theorem slots_split : (held (c : Thread nD τ) bM : sProp 𝕄) ⊢ iprop(held (c : Thread nD τ) (slot 0) ∗ held (c : Thread nD τ) (slot 1)) := by
  refine (held_rects (c : Thread nD τ) bM slotR (fun _ _ => rfl) slot_disj slot_cov).trans ?_
  rw [bigSep_univ_eq_bigSepL [0, 1] (by decide) (by decide)]
  show iprop(held (c : Thread nD τ) (slot1 0) ∗ held (c : Thread nD τ) (slot1 1)) ⊢ _
  iintro ⟨H0, H1⟩
  isplitl [H0]
  · iapply (held_squeeze (c : Thread nD τ) (slot1 0) squeezes_S1x4096x512_S4096x512); iexact H0
  · iapply (held_squeeze (c : Thread nD τ) (slot1 1) squeezes_S1x4096x512_S4096x512); iexact H1

theorem slots_join : iprop(held (c : Thread nD τ) (slot 0) ∗ held (c : Thread nD τ) (slot 1)) ⊢ (held (c : Thread nD τ) bM : sProp 𝕄) := by
  refine BI.Entails.trans ?_ (held_of_rects (c : Thread nD τ) bM slotR (fun _ _ => rfl) slot_disj slot_cov)
  rw [bigSep_univ_eq_bigSepL [0, 1] (by decide) (by decide)]
  show _ ⊢ iprop(held (c : Thread nD τ) (slot1 0) ∗ held (c : Thread nD τ) (slot1 1))
  iintro ⟨H0, H1⟩
  isplitl [H0]
  · iapply (held_of_squeeze (c : Thread nD τ) (slot1 0) squeezes_S1x4096x512_S4096x512); iexact H0
  · iapply (held_of_squeeze (c : Thread nD τ) (slot1 1) squeezes_S1x4096x512_S4096x512); iexact H1

/-! ## The exchange buffer's tiles -/

abbrev HI : Type := Fin 2 × Fin 8

theorem hi_ne {x y : HI} (h : x ≠ y) : x.1.val ≠ y.1.val ∨ x.2.val ≠ y.2.val := by
  by_contra hn
  rw [not_or, not_not, not_not] at hn
  exact h (Prod.ext (Fin.ext hn.1) (Fin.ext hn.2))

def commR (x : HI) : Rect S2x8x2048x1024 :=
  Rect.unit (s := S2x8x2048x1024) ![x.1.val, x.2.val, 0, 0] S1x1x2048x1024.size (comm_inb x.1 x.2)

theorem comm_disj : ∀ x y : HI, x ≠ y → Disjoint (commR x).set (commR y).set := fun x y h => by
  rcases hi_ne h with h | h
  · exact Rect.unit_disjoint 0 (by show x.1.val + 1 ≤ y.1.val ∨ y.1.val + 1 ≤ x.1.val; omega)
  · exact Rect.unit_disjoint 1 (by show x.2.val + 1 ≤ y.2.val ∨ y.2.val + 1 ≤ x.2.val; omega)

theorem comm_cov : (Finset.univ : Finset HI).biUnion (fun x => (commR x).set) = Finset.univ := by
  ext p
  simp only [Finset.mem_biUnion, Finset.mem_univ, true_and, iff_true]
  have h0 : (p 0).val < 2 := (p 0).isLt
  have h1 : (p 1).val < 8 := (p 1).isLt
  refine ⟨(⟨(p 0).val, h0⟩, ⟨(p 1).val, h1⟩), Rect.mem_set_unit.mpr fun a => ?_⟩
  fin_cases a
  · exact ⟨Nat.le_refl _, Nat.lt_succ_self _⟩
  · exact ⟨Nat.le_refl _, Nat.lt_succ_self _⟩
  · exact ⟨Nat.zero_le _, (p 2).isLt.trans_eq (Nat.zero_add 2048).symm⟩
  · exact ⟨Nat.zero_le _, (p 3).isLt.trans_eq (Nat.zero_add 1024).symm⟩

theorem bigSep_two {Φ : Fin 2 → sProp 𝕄} : bigSep Finset.univ Φ = iprop(Φ 0 ∗ Φ 1) :=
  bigSep_univ_eq_bigSepL [0, 1] (by decide) (by decide) Φ

theorem comm_split : (held (c : Thread nD τ) cM : sProp 𝕄)
    ⊢ iprop(bigSep Finset.univ (fun i => held (c : Thread nD τ) (comm 0 i)) ∗ bigSep Finset.univ (fun i => held (c : Thread nD τ) (comm 1 i))) := by
  refine (held_rects (c : Thread nD τ) cM commR (fun _ _ => rfl) comm_disj comm_cov).trans ?_
  rw [bigSep_univ_prod, bigSep_two]
  refine BI.sep_mono (bigSep_mono fun i _ => ?_) (bigSep_mono fun i _ => ?_)
  · exact held_squeeze (c : Thread nD τ) _ squeezes_S1x1x2048x1024_S2048x1024
  · exact held_squeeze (c : Thread nD τ) _ squeezes_S1x1x2048x1024_S2048x1024

/-! ## The result's tiles -/

def outR (x : HI) : Rect S2048x16384 :=
  Rect.unit (s := S2048x16384) ![0, 8192 * x.1.val + 1024 * x.2.val] S2048x1024.size (outT_inb x.1 x.2)

theorem out_disj : ∀ x y : HI, x ≠ y → Disjoint (outR x).set (outR y).set := fun x y h =>
  Rect.unit_disjoint 1 (by
    show 8192 * x.1.val + 1024 * x.2.val + 1024 ≤ 8192 * y.1.val + 1024 * y.2.val ∨ 8192 * y.1.val + 1024 * y.2.val + 1024 ≤ 8192 * x.1.val + 1024 * x.2.val
    have hx := x.2.isLt
    have hy := y.2.isLt
    rcases hi_ne h with h | h <;> omega)

theorem out_cov : (Finset.univ : Finset HI).biUnion (fun x => (outR x).set) = Finset.univ := by
  ext p
  simp only [Finset.mem_biUnion, Finset.mem_univ, true_and, iff_true]
  have h1 : (p 1).val < 16384 := (p 1).isLt
  refine ⟨(⟨(p 1).val / 8192, by omega⟩, ⟨(p 1).val % 8192 / 1024, by omega⟩), Rect.mem_set_unit.mpr fun a => ?_⟩
  fin_cases a
  · exact ⟨Nat.zero_le _, (p 0).isLt.trans_eq (Nat.zero_add 2048).symm⟩
  · show 8192 * ((p 1).val / 8192) + 1024 * ((p 1).val % 8192 / 1024) ≤ (p 1).val ∧ (p 1).val < 8192 * ((p 1).val / 8192) + 1024 * ((p 1).val % 8192 / 1024) + 1024
    omega

theorem sep_swap (P Q : sProp 𝕄) : iprop(P ∗ Q) ⊢ iprop(Q ∗ P) := by
  iintro ⟨H0, H1⟩
  isplitl [H1]; · iexact H1
  iexact H0

/-- A family over the two places, the device's own place first. -/
theorem bigSep_places {Φ : Fin 2 → sProp 𝕄} : bigSep Finset.univ Φ = iprop(Φ (place c) ∗ Φ (place (peer c))) := by
  have hp : place (peer c) = 1 - place c := by revert c; decide
  rw [bigSep_two, hp]
  generalize place c = h
  fin_cases h
  · rfl
  · exact BI.equiv_iff.mp ⟨sep_swap _ _, sep_swap _ _⟩

theorem out_split : (held (c : Thread nD τ) oM : sProp 𝕄)
    ⊢ iprop(bigSep Finset.univ (fun i => held (c : Thread nD τ) (outT (place c) i)) ∗ bigSep Finset.univ (fun i => held (c : Thread nD τ) (outT (place (peer c)) i))) := by
  refine (held_rects (c : Thread nD τ) oM outR (fun _ _ => rfl) out_disj out_cov).trans ?_
  rw [bigSep_univ_prod, bigSep_places c]
  exact .rfl

/-- Where an element of the result stands in its tile. -/
def inTile (p : S2048x16384.Idx) : S2048x1024.Idx :=
  fun a => ⟨(p a).val % S2048x1024.size a, Nat.mod_lt _ (by revert a; decide)⟩
/-- The tile of its half it stands in. -/
def tileOf (p : S2048x16384.Idx) : Fin 8 := ⟨(p 1).val % 8192 / 1024, by omega⟩

/-- The result on device `c`: its own half of the columns from its own exponentials, the other from its peer's. -/
def outV (p : S2048x16384.Idx) : F .f32 :=
  if (p 1).val / 8192 = (place c).val then ownOut m c (tileOf p) (inTile p) else peerOut m c (tileOf p) (inTile p)

theorem out_emb (x : HI) (j : S2048x1024.Idx) :
    ((outR x).emb j 1).val / 8192 = x.1.val ∧ tileOf ((outR x).emb j) = x.2 ∧ inTile ((outR x).emb j) = j := by
  have e1 : ((outR x).emb j 1).val = 8192 * x.1.val + 1024 * x.2.val + 1 * (j 1).val := rfl
  have e0 : ((outR x).emb j 0).val = 0 + 1 * (j 0).val := rfl
  have hj : (j 1).val < 1024 := (j 1).isLt
  have hj0 : (j 0).val < 2048 := (j 0).isLt
  have hx := x.2.isLt
  refine ⟨by rw [e1]; omega, Fin.ext ?_, funext fun a => Fin.ext ?_⟩
  · show ((outR x).emb j 1).val % 8192 / 1024 = x.2.val
    rw [e1]; omega
  · fin_cases a
    · show ((outR x).emb j 0).val % 2048 = (j 0).val
      rw [e0]; omega
    · show ((outR x).emb j 1).val % 1024 = (j 1).val
      rw [e1]; omega

/-- Tile `x` of it. -/
def tileV (x : HI) : S2048x1024.Idx → F .f32 := if x.1.val = (place c).val then ownOut m c x.2 else peerOut m c x.2

theorem tileV_own (i : Fin 8) : tileV m c (place c, i) = ownOut m c i := if_pos rfl
theorem place_ne (c : Dev nD) : (place (peer c)).val ≠ (place c).val := by revert c; decide
theorem tileV_peer (i : Fin 8) : tileV m c (place (peer c), i) = peerOut m c i := if_neg (place_ne c)

theorem outV_emb (x : HI) (j : S2048x1024.Idx) : outV m c ((outR x).emb j) = tileV m c x j := by
  obtain ⟨h1, h2, h3⟩ := out_emb x j
  unfold outV tileV
  rw [h1, h2, h3]
  split <;> rfl

theorem out_join : iprop(bigSep Finset.univ (fun i => owns (c : Thread nD τ) (outT (place c) i) fullShare (ownOut m c i))
      ∗ bigSep Finset.univ (fun i => owns (c : Thread nD τ) (outT (place (peer c)) i) fullShare (peerOut m c i)))
    ⊢ (((c : Thread nD τ).loc main_v1_0) ↦{fullShare} outV m c : sProp 𝕄) := by
  refine BI.Entails.trans ?_ (whole_of_owns (c : Thread nD τ) main_v1_0 fullShare (outV m c))
  refine BI.Entails.trans ?_ (owns_of_parts (c : Thread nD τ) oM outR (fun _ _ => rfl) out_disj out_cov (outV m c) (tileV m c) (outV_emb m c))
  rw [bigSep_univ_prod, bigSep_places c]
  refine BI.sep_mono (bigSep_mono fun i _ => ?_) (bigSep_mono fun i _ => ?_)
  · rw [tileV_own]; exact BI.Entails.refl _
  · rw [tileV_peer]; exact BI.Entails.refl _

/-! ## W, in two half shares -/

theorem w_split : (((c : Thread nD τ).loc main_arg1) ↦{fullShare} m ((c : Thread nD τ).loc main_arg1) : sProp 𝕄)
    ⊢ iprop(wPts m c (shr 0) ∗ wPts m c (shr 1)) := by
  unfold wPts
  refine (owns_of_whole (c : Thread nD τ) main_arg1 fullShare _).trans ?_
  refine (owns_halves (c : Thread nD τ) wM fullShare _).1.trans ?_
  exact BI.sep_mono (whole_of_owns (c : Thread nD τ) main_arg1 _ _) (whole_of_owns (c : Thread nD τ) main_arg1 _ _)

theorem w_join : iprop(wPts m c (shr 0) ∗ wPts m c (shr 1))
    ⊢ (((c : Thread nD τ).loc main_arg1) ↦{fullShare} m ((c : Thread nD τ).loc main_arg1) : sProp 𝕄) := by
  unfold wPts
  refine BI.Entails.trans ?_ (whole_of_owns (c : Thread nD τ) main_arg1 fullShare _)
  refine BI.Entails.trans ?_ (owns_halves (c : Thread nD τ) wM fullShare _).2
  exact BI.sep_mono (owns_of_whole (c : Thread nD τ) main_arg1 _ _) (owns_of_whole (c : Thread nD τ) main_arg1 _ _)

end Softmax
-- ==== Proof.Body.lean ====
/-
  A device's whole run of the kernel: the handshake, the first loop, the exchange of the row sums, the
  second loop and the third.
-/
module

public import proofs.«01_k».proof.Proof.Tiles

@[expose] public section

noncomputable section

namespace Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Transfers (Flight)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## What a device starts with -/

def wAll : sProp 𝕄 := ((c : Thread nD τ).loc main_arg1) ↦{fullShare} m ((c : Thread nD τ).loc main_arg1)
def outAll : sProp 𝕄 := ((c : Thread nD τ).loc main_v1_0) ↦{fullShare} outV m c

/-- Its positions in the cells it waits on, -/
def posns : sProp 𝕄 :=
  iprop(atPos ER (barCell c) 0 ∅ 0 ∗ atPos ER (ssendCell c) 0 ∅ 0 ∗ atPos ER (srecvCell c) 0 ∅ 0
    ∗ bigSep Finset.univ (fun i : Fin 8 => atPos ER (sendCell c i) 0 ∅ 0) ∗ bigSep Finset.univ (fun i : Fin 8 => atPos ER (recvCell c i) 0 ∅ 0))
/-- the duties it pays, -/
def payToks : sProp 𝕄 :=
  iprop(dutyTok ER (barCell (peer c)) 0 () ∗ dutyTok ER (ssendCell c) 0 () ∗ dutyTok ER (srecvCell (peer c)) 0 ()
    ∗ bigSep Finset.univ (fun i : Fin 8 => dutyTok ER (sendCell c i) 0 ()) ∗ bigSep Finset.univ (fun i : Fin 8 => dutyTok ER (recvCell (peer c) i) 0 ()))
/-- the credits of what its peer owes it, -/
def credits : sProp 𝕄 :=
  iprop(cred (tallyAt (barCell c) () 1) ∗ cred (tallyAt (srecvCell c) () Ns)
    ∗ bigSep Finset.univ (fun i : Fin 8 => cred (tallyAt (recvCell c i) () Nt)))
/-- and the semaphores of its local copies. -/
def localSems : sProp 𝕄 :=
  iprop(semVal ((c : Thread nD τ), .dma copyQ) 0 ∗ semVal ((c : Thread nD τ), .dma (slotQ 0)) 0 ∗ semVal ((c : Thread nD τ), .dma (slotQ 1)) 0)
/-- The cells it waits on, closed at zero. -/
def closed : sProp 𝕄 :=
  iprop(semVal (barCell c) 0 ∗ semVal (ssendCell c) 0 ∗ semVal (srecvCell c) 0
    ∗ bigSep Finset.univ (fun i : Fin 8 => semVal (sendCell c i) 0) ∗ bigSep Finset.univ (fun i : Fin 8 => semVal (recvCell c i) 0))
/-- The kernel's scratch. -/
def scratch : sProp 𝕄 :=
  iprop(held (c : Thread nD τ) bM ∗ held (c : Thread nD τ) eM ∗ held (c : Thread nD τ) sM ∗ held (c : Thread nD τ) pM)

theorem sum_owns : sPts c (sumN m c 16) ⊢ owns (c : Thread nD τ) sM fullShare (sumC m c) :=
  owns_of_whole (c : Thread nD τ) cc0_scratch2 fullShare (sumC m c)

theorem bar_pay_own : iprop(held (c : Thread nD τ) pM ∗ bigSep Finset.univ (fun i : Fin 8 => held (c : Thread nD τ) (comm 1 i)))
    ⊢ (Rd m).payload (barCell (peer c)) 0 () := by
  show _ ⊢ barPay (peer c)
  unfold barPay
  rw [peer_peer]

/-! ## The handshake and the first chunk -/

abbrev part4 : Prog (TpuEff nD τ sig (Elt F) Λ₀ .tc) (Σ' (d0 : Dev nD) (v5 : BitVec 32) (v8 : BitVec 32) (v9 : BitVec 32) (v10 : BitVec 32) (v11 : BitVec 32) (c0 : BitVec 32), BitVec 32) :=
  k0_part4 (F := F) xM (Memref.isWhole_whole _) wM (Memref.isWhole_whole _) oM (Memref.isWhole_whole _) cM (Memref.isWhole_whole _)
    bM (Memref.isWhole_whole _) eM (Memref.isWhole_whole _) sM (Memref.isWhole_whole _) pM (Memref.isWhole_whole _)
    cc0_scratch4 cc0_scratch5 cc0_scratch6 cc0_scratch7 cc0_scratch8 cc0_scratch9

theorem wp_part4 :
    iprop(records m K ∗ levAts L lv ∗ atPos ER (barCell c) 0 ∅ 0 ∗ dutyTok ER (barCell (peer c)) 0 () ∗ cred (tallyAt (barCell c) () 1)
        ∗ held (c : Thread nD τ) pM ∗ bigSep Finset.univ (fun i : Fin 8 => held (c : Thread nD τ) (comm 1 i))
        ∗ (∃ W, owes (c : Thread nD τ) (O₀ c) W) ∗ held (c : Thread nD τ) sM ∗ idle m c 0)
      ⊢ wp Idealize.ShloMosaic.frame (wpE defs₀ 𝒱₀ (c : Thread nD τ) none) Set.univ (part4 (F := F))
          (fun r => iprop(⌜r.1 = c⌝ ∗ semVal (barCell c) 0 ∗ barPay (F := F) c ∗ sPts c (sumN m c 0) ∗ flying m c 0 0 ∗ dueA (F := F) c 0)) := by
  unfold part4
  rw [k0_part4_eq_skeleton]
  unfold k0_part4_skel
  simp only [semSignalWord, semWaitWord, Prog.lift, Prog.bind_op, Prog.bind_ret, Prog.pure_eq_ret, wp_deviceId]
  simp only [dev1_eq c, wch_of (0 : Fin 16) (show (![0, 0] : Fin 2 → Nat) = ![0, 512 * (0 : Fin 16).val] from rfl),
    slot_of (0 : Fin 2) (show (![0, 0, 0] : Fin 3 → Nat) = ![(0 : Fin 2).val, 0, 0] from rfl), slotQ_of (0 : Fin 2) (show (![0] : Fin 1 → Nat) = ![(0 : Fin 2).val] from rfl)]
  iintro ⟨#Hrec, #Hlev, Ha, Htk, Hcr, Hp, Hcm, ⟨%W, HO⟩, Hs, Hi⟩
  ihave #Hi1 := (inv_at m K c (.inl 0)) $$ Hrec
  ihave #Hi2 := (inv_at m K (peer c) (.inl 0)) $$ Hrec
  ihave #Hr2 := (reached_at m K (peer c) (.inl 0)) $$ Hrec
  iapply (Rounds.wp_signal 𝒱₀ ER (Rd m) (c : Thread nD τ) none (dst := (peer c : Thread nD τ)) (κ := K (peer c, .inl 0))
      (d := ()) (by rw [duties_of m (ring_bar (peer c))]; exact Finset.mem_singleton_self _) ((amt_bar).trans (by decide)) () (Od c 0) rfl)
    $$ [HO Htk Hp Hcm]
  · isplitr; · iexact Hi2
    isplitl [HO]; · iexact HO
    isplitl [Htk]; · iexact Htk
    isplitl [Hp Hcm]
    · iapply (bar_pay_own m c)
      isplitl [Hp]; · iexact Hp
      iexact Hcm
    iexact Hr2
  iintro HO
  iapply (Rounds.wp_wait_rest_token 𝒱₀ ER (Rd m) (c : Thread nD τ) none (κ := K (c, .inl 0))
      (wpE_semWait_eq 𝒱₀ (c : Thread nD τ) none Set.univ) (Set.mem_univ _) () (O := Od c 0) (W := W) (R := 0) (m := 0) (T := ∅)
      (by rw [expect_of m (ring_bar c)]; rfl)) $$ [Hcr HO Ha]
  · isplitr; · iexact Hi1
    isplitl [Hcr]; · iexact Hcr
    isplitl [HO]; · iexact HO
    isplitr; · iapply (mayWait_due (F := F) c (.reg barS) (by rw [lvS_bar]) 0); iexact Hlev
    iexact Ha
  iintro ⟨HO, Ha, -, Hpay⟩
  ihave Hpay := (Entails.of_eq (rest_of m (ring_bar c))) $$ Hpay
  imod (Rounds.cell_close ER (Rd m) (Set.mem_univ (K (c, .inl 0))) (fun h => h) (R := 0 + 1) (duties_later m (barCell c))) $$ [Ha] with Hz
  · isplitr; · iexact Hi1
    iexact Ha
  unfold held
  icases Hs with ⟨%f, Hs⟩
  ihave Hs := (whole_of_owns (c : Thread nD τ) cc0_scratch2 fullShare f) $$ Hs
  iapply (wp_load 𝒱₀ (c : Thread nD τ) none Set.univ (m := sM) (Finset.subset_univ _)) $$ Hs
  iintro Hs
  iapply (wp_store 𝒱₀ (c : Thread nD τ) none Set.univ (m := sM) (r := Rect.unit (s := S2048x1) ![0, 0] S2048x1.size inb_S2048x1_S2048x1_0_0) (Mk := Finset.univ) (Finset.subset_univ _)) $$ Hs
  iintro Hs
  rw [write_s]
  unfold idle
  icases Hi with ⟨Hsl, Hw, Hv⟩
  iapply (start_copy EC 𝒱₀ (c : Thread nD τ) none (src := wch 0) (dst := slot 0) (q := shr 0)
    (sm := .dma (slotQ 0)) (fs := m ((c : Thread nD τ).loc main_arg1)) () Nw (slot_credit 0) Nw_pos (Finset.subset_univ _)) $$ [Hsl Hw Hv]
  · unfold wPts
    isplitl [Hw]; · iexact Hw
    isplitl [Hsl]; · iexact Hsl
    iexact Hv
  iintro Hn
  rw [wp_ret]
  imodintro
  isplitr; · ipureintro; rfl
  isplitl [Hz]; · iexact Hz
  isplitl [Hpay]; · iapply (Entails.of_eq (pay_bar m c)); iexact Hpay
  isplitl [Hs]; · unfold sPts; iexact Hs
  isplitl [Hn]; · unfold flying wPts; iexact Hn
  unfold dueA
  iexists _; iexact HO

/-! ## From one phase to the next -/

theorem into_A : iprop(bigSep Finset.univ (fun i : Fin 8 => held (c : Thread nD τ) (comm 0 i))
      ∗ bigSep Finset.univ (fun i : Fin 8 => held (peer c : Thread nD τ) (comm 1 i))
      ∗ bigSep Finset.univ (fun i : Fin 8 => dutyTok ER (sendCell c i) 0 ())
      ∗ bigSep Finset.univ (fun i : Fin 8 => dutyTok ER (recvCell (peer c) i) 0 ()))
    ⊢ (bigSep Finset.univ (tileA m c 0) : sProp 𝕄) := by
  rw [bigSep_congr (fun i _ => show tileA m c 0 i = unsent c i from if_pos (Nat.zero_le _))]
  unfold unsent
  rw [bigSep_sep', bigSep_sep', bigSep_sep']

theorem into_C : iprop(bigSep Finset.univ (tileA m c 8)
      ∗ bigSep Finset.univ (fun i : Fin 8 => held (c : Thread nD τ) (outT (place c) i))
      ∗ bigSep Finset.univ (fun i : Fin 8 => held (c : Thread nD τ) (outT (place (peer c)) i))
      ∗ bigSep Finset.univ (fun i : Fin 8 => cred (tallyAt (recvCell c i) () Nt))
      ∗ bigSep Finset.univ (fun i : Fin 8 => atPos ER (recvCell c i) 0 ∅ 0)
      ∗ bigSep Finset.univ (fun i : Fin 8 => atPos ER (sendCell c i) 0 ∅ 0))
    ⊢ iprop(bigSep Finset.univ (tileC m c 0) ∗ bigSep Finset.univ (sendN (F := F) c 0)) := by
  rw [bigSep_congr (fun i _ => show tileA m c 8 i = sent m c i from if_neg (by omega)),
    bigSep_congr (fun i _ => show tileC m c 0 i = todo m c i from if_pos (Nat.zero_le _)),
    bigSep_congr (fun i _ => show (sendN c 0 i : sProp 𝕄) = _ from if_pos (Nat.zero_le _))]
  unfold sent todo
  rw [bigSep_sep', bigSep_sep', bigSep_sep', bigSep_sep', bigSep_sep', bigSep_sep']
  iintro ⟨⟨H1, H2⟩, H3, H4, H5, H6, H7⟩
  isplitl [H1 H3 H4 H5 H6]
  · isplitl [H1]; · iexact H1
    isplitl [H3]; · iexact H3
    isplitl [H4]; · iexact H4
    isplitl [H5]; · iexact H5
    iexact H6
  isplitl [H2]; · iexact H2
  iexact H7

theorem out_of_C : (bigSep Finset.univ (tileC m c 8) : sProp 𝕄)
    ⊢ iprop(outAll m c ∗ bigSep Finset.univ (fun i : Fin 8 => semVal (recvCell c i) 0)) := by
  rw [bigSep_congr (fun i _ => show tileC m c 8 i = doneT m c i from if_neg (by omega))]
  unfold doneT
  rw [bigSep_sep', bigSep_sep']
  iintro ⟨H1, H2, H3⟩
  isplitl [H1 H2]
  · unfold outAll
    iapply (out_join m c)
    isplitl [H1]; · iexact H1
    iexact H2
  iexact H3

theorem out_of_D : (bigSep Finset.univ (sendN (F := F) c 8) : sProp 𝕄) ⊢ bigSep Finset.univ (fun i : Fin 8 => semVal (sendCell c i) 0) := by
  rw [bigSep_congr (fun i _ => show (sendN c 8 i : sProp 𝕄) = _ from if_neg (by omega))]

theorem sums_duty {d : Dev nD} (hd : d = peer c) : () ∈ (Rd m).duties (srecvCell d) 0 := by
  subst hd; rw [duties_of m (ring_srecv (peer c))]; exact Finset.mem_singleton_self _
theorem sums_due {d : Dev nD} (hd : d = peer c) : Od c 8 = 0 + tallyAt (srecvCell d) () Ns := by
  subst hd; rw [zero_add]; exact Od_last c
theorem sums_pay {d : Dev nD} (hd : d = peer c) :
    owns (d : Thread nD τ) pM fullShare (sumC m c) = (Rd m).payload (srecvCell d) 0 () := by
  subst hd
  show _ = srecvPay m (peer c)
  unfold srecvPay; rw [peer_peer]
theorem inv_sums {d : Dev nD} (hd : d = peer c) : records m K ⊢ cellInv ER (Rd m) (K (peer c, .inl 2)) (srecvCell d) := by
  subst hd; exact inv_at m K (peer c) (.inl 2)
theorem reached_sums {d : Dev nD} (hd : d = peer c) : records m K ⊢ (reached ER (srecvCell d) 0 : sProp 𝕄) := by
  subst hd; exact reached_at m K (peer c) (.inl 2)

/-! ## The body -/

abbrev kernelBody : Prog (TpuEff nD τ sig (Elt F) Λ₀ .tc) PUnit :=
  cc0_body (F := F) xM (Memref.isWhole_whole _) wM (Memref.isWhole_whole _) oM (Memref.isWhole_whole _) cM (Memref.isWhole_whole _)
    bM (Memref.isWhole_whole _) eM (Memref.isWhole_whole _) sM (Memref.isWhole_whole _) pM (Memref.isWhole_whole _)
    cc0_scratch4 cc0_scratch5 cc0_scratch6 cc0_scratch7 cc0_scratch8 cc0_scratch9

set_option maxHeartbeats 2000000 in
theorem wp_body :
    iprop(records m K ∗ levAts L lv ∗ posns c ∗ payToks c ∗ credits c ∗ localSems c ∗ wAll m c ∗ held (c : Thread nD τ) oM ∗ held (c : Thread nD τ) cM
        ∗ scratch c ∗ xPts m c ∗ (∃ W, owes (c : Thread nD τ) (O₀ c) W))
      ⊢ wp Idealize.ShloMosaic.frame (wpE defs₀ 𝒱₀ (c : Thread nD τ) none) Set.univ (kernelBody (F := F))
          (fun _ => iprop(closed c ∗ localSems c ∗ wAll m c ∗ outAll m c ∗ scratch c ∗ xPts m c ∗ ∃ W, owes (c : Thread nD τ) 0 W)) := by
  unfold kernelBody
  simp only [cc0_body_eq_skeleton]
  unfold cc0_body_skel
  rw [wp_bind]
  unfold posns payToks credits localSems scratch wAll
  iintro ⟨#Hrec, #Hlev, ⟨HaB, HaS, HaR, Has, Har⟩, ⟨HtB, HtS, HtR, Hts, Htr⟩, ⟨HcB, HcR, Hcr⟩, ⟨Hq, Hq0, Hq1⟩, Hw, Ho, Hcm, ⟨Hb, He, Hs, Hp⟩, Hx, Hd⟩
  ihave Hw := (w_split m c) $$ Hw
  icases Hw with ⟨Hw0, Hw1⟩
  ihave Hb := (slots_split (F := F) c) $$ Hb
  icases Hb with ⟨Hb0, Hb1⟩
  ihave Hcm := (comm_split (F := F) c) $$ Hcm
  icases Hcm with ⟨Hc0, Hc1⟩
  ihave Ho := (out_split (F := F) c) $$ Ho
  icases Ho with ⟨Ho0, Ho1⟩
  iapply (wp_wand_r _ _ _)
  isplitl [HaB HtB HcB Hp Hc1 Hd Hs Hb0 Hw0 Hq0]
  · iapply (wp_part4 m K c)
    isplitr; · iexact Hrec
    isplitr; · iexact Hlev
    isplitl [HaB]; · iexact HaB
    isplitl [HtB]; · iexact HtB
    isplitl [HcB]; · iexact HcB
    isplitl [Hp]; · iexact Hp
    isplitl [Hc1]; · iexact Hc1
    isplitl [Hd]; · iexact Hd
    isplitl [Hs]; · iexact Hs
    unfold idle
    isplitl [Hb0]; · iexact Hb0
    isplitl [Hw0]; · iexact Hw0
    iexact Hq0
  iintro %r ⟨%hr, HzB, Hpay, Hs, Hn, Hd⟩
  obtain ⟨d0, v5, v8, v9, v10, v11, c0, c16⟩ := r
  have hr : d0 = c := hr
  subst hr
  dsimp only
  unfold barPay
  icases Hpay with ⟨Hp, Hc1⟩
  -- the first loop
  iapply (Scf.wp_for_bind _ _ _ _ _ _ k0_t1_ok _ _ (fun n _ => invA m K d0 n) (fun k acc => stepA m K d0 v5 v8 v9 c0 k)) $$ [Hx Hs He Hn Hb1 Hw1 Hq1 Hq Hc0 Hc1 Hts Htr Hd]
  · unfold invA
    isplitr; · iexact Hrec
    isplitr; · iexact Hlev
    isplitl [Hx]; · iexact Hx
    isplitl [Hs]; · iexact Hs
    isplitl [He]
    · unfold ePart held
      icases He with ⟨%f, He⟩
      iexists f
      isplitr
      · ipureintro
        intro k hk; omega
      iapply (whole_of_owns (d0 : Thread nD τ) cc0_scratch1 fullShare f)
      iexact He
    isplitl [Hn]; · iapply (Entails.of_eq (nextSlot_lt m d0 (n := 0) (by decide)).symm); iexact Hn
    isplitl [Hb1 Hw1 Hq1]
    · unfold idle
      isplitl [Hb1]; · iexact Hb1
      isplitl [Hw1]; · iexact Hw1
      iexact Hq1
    isplitl [Hq]; · iexact Hq
    isplitl [Hc0 Hc1 Hts Htr]
    · iapply (into_A m d0)
      isplitl [Hc0]; · iexact Hc0
      isplitl [Hc1]; · iexact Hc1
      isplitl [Hts]; · iexact Hts
      iexact Htr
    iexact Hd
  iintro %acc HI
  ihave HI := (Entails.of_eq (congrArg (invA m K d0) trips1)) $$ HI
  unfold invA
  icases HI with ⟨-, -, Hx, Hs, He, Hn, Hi, Hq, Ht, Hd⟩
  unfold dueA
  icases Hd with ⟨%W, Hd⟩
  -- the row sums
  simp only [Prog.lift, Prog.bind_op, Prog.bind_ret, Prog.pure_eq_ret, ssendQ_eq, srecvQ_eq]
  have hp := dev3_eq d0
  ihave #HiS := (inv_at m K d0 (.inl 1)) $$ Hrec
  ihave #HrS := (reached_at m K d0 (.inl 1)) $$ Hrec
  ihave #HiR := (inv_at m K d0 (.inl 2)) $$ Hrec
  ihave #HiP := (inv_sums m K d0 hp) $$ Hrec
  ihave #HrP := (reached_sums m K d0 hp) $$ Hrec
  ihave Hp := (Entails.of_eq (congrArg (fun d : Dev nD => held (d : Thread nD τ) pM) hp.symm)) $$ Hp
  ihave HtR := (Entails.of_eq (congrArg (fun d : Dev nD => dutyTok ER (srecvCell d) 0 ()) hp.symm)) $$ HtR
  ihave Hs := (sum_owns m d0) $$ Hs
  iapply (send_owns 𝒱₀ (d0 : Thread nD τ) none ER (Rd m) (c' := ((⟨k0_dev3 d0, k0_dev3_lt d0⟩ : Dev nD) : Thread nD τ)) (src := sM) (dst := pM)
      (sS := .dma ssendQ) (sem := .dma srecvQ) (q := (fullShare : PosShare TreeShare)) (X := sumC m d0)
      (by rw [duties_of m (ring_ssend d0)]; exact Finset.mem_singleton_self _) (sums_duty m d0 hp)
      () Ns rfl amt_ssend amt_srecv 0 (sums_due d0 hp)
      (Entails.of_eq (pay_ssend m d0).symm) (Entails.of_eq (sums_pay m d0 hp)) (by show decide _ = true; simp))
      $$ [Hs Hp Hd HtS HtR]
  · isplitr; · iexact HiS
    isplitr; · iexact HiP
    isplitl [Hs]; · iexact Hs
    isplitl [Hp]; · iexact Hp
    isplitl [Hd]; · iexact Hd
    isplitl [HtS]; · iexact HtS
    isplitr; · iexact HrS
    isplitl [HtR]; · iexact HtR
    iexact HrP
  iintro ⟨HcS, Hd⟩
  iapply (wait_ring (dst := sM) m d0 (K (d0, .inl 1)) (ring_ssend d0) Ns rfl amt_ssend) $$ [HcS Hd HaS]
  · isplitr; · iexact HiS
    isplitl [HcS]; · iexact HcS
    isplitl [Hd]; · iexists _; iexact Hd
    iexact HaS
  iintro ⟨HzS, Hs, Hd⟩
  iapply (wait_ring (dst := pM) m d0 (K (d0, .inl 2)) (ring_srecv d0) Ns rfl amt_srecv) $$ [HcR Hd HaR]
  · isplitr; · iexact HiR
    isplitl [HcR]; · iexact HcR
    isplitl [Hd]; · iexact Hd
    iexact HaR
  iintro ⟨HzR, Hp, Hd⟩
  ihave Hs := (Entails.of_eq (pay_ssend m d0)) $$ Hs
  ihave Hp := (Entails.of_eq (pay_srecv m d0)) $$ Hp
  unfold ssendPay srecvPay
  ihave Hs := (whole_of_owns (d0 : Thread nD τ) cc0_scratch2 fullShare (sumC m d0)) $$ Hs
  ihave Hp := (whole_of_owns (d0 : Thread nD τ) cc0_scratch3 fullShare (sumC m (peer d0))) $$ Hp
  iapply (wp_load 𝒱₀ (d0 : Thread nD τ) none Set.univ (m := sM) (Finset.subset_univ _)) $$ Hs
  iintro Hs
  iapply (wp_load 𝒱₀ (d0 : Thread nD τ) none Set.univ (m := pM) (Finset.subset_univ _)) $$ Hp
  iintro Hp
  rw [read_s, read_p]
  -- the second loop
  ihave Ht := (into_C m d0) $$ [Ht Ho0 Ho1 Hcr Har Has]
  · isplitl [Ht]; · iexact Ht
    isplitl [Ho0]; · iexact Ho0
    isplitl [Ho1]; · iexact Ho1
    isplitl [Hcr]; · iexact Hcr
    isplitl [Har]; · iexact Har
    iexact Has
  icases Ht with ⟨Ht, Hsn⟩
  iapply (Scf.wp_for_bind _ _ _ _ _ _ k0_t2_ok _ _ (fun n _ => invC m K d0 n) (fun k acc => stepC m K d0 v5 v8 v9 v10 k)) $$ [He Hq Ht Hd]
  · unfold invC
    isplitr; · iexact Hrec
    isplitl [He]
    · unfold ePart freeE
      icases He with ⟨%f, -, He⟩
      iapply (owns_held (d0 : Thread nD τ) eM f)
      iapply (owns_of_whole (d0 : Thread nD τ) cc0_scratch1 fullShare f)
      iexact He
    isplitl [Hq]; · iexact Hq
    isplitl [Ht]; · iexact Ht
    unfold due0
    iexact Hd
  iintro %acc2 HI
  ihave HI := (Entails.of_eq (congrArg (invC m K d0) trips2)) $$ HI
  unfold invC
  icases HI with ⟨-, He, Hq, Ht, Hd⟩
  -- the third loop
  iapply (Scf.wp_for_bind _ _ _ _ _ _ k0_t3_ok _ _ (fun n _ => invD m K d0 n) (fun k acc => stepD m K d0 k)) $$ [Hsn Hd]
  · unfold invD
    isplitr; · iexact Hrec
    isplitl [Hsn]; · iexact Hsn
    iexact Hd
  iintro %acc3 HI
  ihave HI := (Entails.of_eq (congrArg (invD m K d0) trips3)) $$ HI
  unfold invD
  icases HI with ⟨-, Hsn, Hd⟩
  ihave Hsn := (out_of_D (F := F) d0) $$ Hsn
  ihave Ht := (out_of_C m d0) $$ Ht
  icases Ht with ⟨Ho, Hrc⟩
  rw [wp_ret]
  imodintro
  unfold closed
  ihave Hn := (Entails.of_eq (nextSlot_last m d0)) $$ Hn
  unfold idle
  icases Hn with ⟨Hb0, Hw0, Hq0⟩
  icases Hi with ⟨Hb1, Hw1, Hq1⟩
  isplitl [HzB HzS HzR Hsn Hrc]
  · isplitl [HzB]; · iexact HzB
    isplitl [HzS]; · iexact HzS
    isplitl [HzR]; · iexact HzR
    isplitl [Hsn]; · iexact Hsn
    iexact Hrc
  isplitl [Hq Hq0 Hq1]
  · isplitl [Hq]; · iexact Hq
    isplitl [Hq0]; · iexact Hq0
    iexact Hq1
  isplitl [Hw0 Hw1]
  · iapply (w_join m d0)
    isplitl [Hw0]; · iexact Hw0
    iexact Hw1
  isplitl [Ho]; · iexact Ho
  isplitl [Hb0 Hb1 He Hs Hp]
  · isplitl [Hb0 Hb1]
    · iapply (slots_join (F := F) d0)
      isplitl [Hb0]; · iexact Hb0
      iexact Hb1
    isplitl [He]; · unfold freeE; iexact He
    isplitl [Hs]
    · iapply (owns_held (d0 : Thread nD τ) sM (sumC m d0))
      iapply (owns_of_whole (d0 : Thread nD τ) cc0_scratch2 fullShare (sumC m d0))
      iexact Hs
    · iapply (owns_held (d0 : Thread nD τ) pM (sumC m (peer d0)))
      iapply (owns_of_whole (d0 : Thread nD τ) cc0_scratch3 fullShare (sumC m (peer d0)))
      iexact Hp
  isplitl [Hx]; · iexact Hx
  unfold due0
  iexact Hd

end Softmax
-- ==== Proof.Launch.lean ====
/-
  The run of @main on the eight devices, for any float values and from any memory: every execution ends, with
  the result array of each device at its two halves of tiles, the arguments unchanged and every semaphore at zero.
-/
module

public import proofs.«01_k».proof.Proof.Body
public import proofs.«01_k».proof.Proof.Gen.KernelIdeal.Launch
public import proofs.«01_k».proof.Proof.Gen.KernelIdeal.Points
public import Idealize.ShloMosaic.Lib.Pipeline.CollectiveSegs

@[expose] public section

noncomputable section

namespace Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

variable (ρ : Dev nD → PrngReg)

/-! ## The pipeline's data -/

def s₀ : MemSt nD τ sig (Elt F) := ⟨m, fun _ => 0, ρ⟩

/-- What the launch hands a device. -/
def start : sProp 𝕄 :=
  iprop((∃ K, records m K) ∗ levAts L lv ∗ posns c ∗ payToks c ∗ credits c ∗ localSems c
    ∗ wAll m c ∗ held (c : Thread nD τ) oM ∗ held (c : Thread nD τ) cM)
def Φ₀ : sProp 𝕄 := iprop(start m c ∗ scratch c)
def Φ₁ : sProp 𝕄 := iprop(closed c ∗ localSems c ∗ wAll m c ∗ outAll m c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgX m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (b : Ref sig .tc) (X : b.ty.Contents (Elt F)) :
    (owns (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m ρ 0 c).owesAt () t0_0.castSucc ∗ (∃ d, stg c cc0_stg0_0 ((dats m ρ 0 c).before (0 : Fin 1) t0_0 d)))
def bodyPost : sProp 𝕄 :=
  iprop(Φ₁ m c ∗ (dats m ρ 0 c).owesAt () t0_0.succ ∗ stg c cc0_stg0_0 (stgX m c))

theorem body_run : bodyPre m c ρ ⊢ wp Idealize.ShloMosaic.frame (wpE defs₀ 𝒱₀ (c : Thread nD τ) none) Set.univ (kernelBody (F := F)) (fun _ => bodyPost m c ρ) := by
  unfold bodyPre Φ₀ start
  iintro ⟨⟨⟨⟨%K, #Hrec⟩, Hlev, H1, H2, H3, H4, H5, H6, H7⟩, Hsc⟩, Ho, ⟨%d, %g, %hg, Hx⟩⟩
  have hx : g = stgX m c := by rw [hg]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (wp_wand_r _ _ _)
  isplitl
  · iapply (wp_body m K c)
    isplitr; · iexact Hrec
    isplitl [Hlev]; · iexact Hlev
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hsc]; · iexact Hsc
    isplitl [Hx]; · unfold xPts; iexact Hx
    iexists W; iexact HO
  iintro %r ⟨H1, H2, H3, H4, H5, Hx, ⟨%W', HO⟩⟩
  unfold bodyPost Φ₁ Dat.owesAt Pipeline.owesWithin
  rw [show (dats m ρ 0 c).owed t0_0.succ = 0 from rfl]
  isplitl [H1 H2 H3 H4 H5]
  · isplitl [H1]; · iexact H1
    isplitl [H2]; · iexact H2
    isplitl [H3]; · iexact H3
    isplitl [H4]; · iexact H4
    iexact H5
  isplitl [HO]
  · iexists W'
    isplitr; · ipureintro; exact fun _ _ => Or.inl trivial
    iexact HO
  unfold xPts
  iexists _; isplitr; · (ipureintro; rfl)
  iexact Hx

theorem body_obligation : BodyObligation (dats (F := F) m ρ 0 c) (defs₀ (F := F)) 𝒱₀ () Set.univ := fun t => by
  rw [fin_N0 t]
  rw [bigSep_W0, bigSep_W0]
  simp only [owns_whole_eq]
  exact body_run m c ρ

/-! ## The cells dealt -/

abbrev OK : Type := Fin 5 ⊕ (Fin 8 ⊕ Fin 8)
abbrev osem : OK → SemLoc sig
  | .inl 0 => .dma ssendQ
  | .inl 1 => .dma srecvQ
  | .inl 2 => .dma copyQ
  | .inl 3 => .dma (slotQ 0)
  | .inl 4 => .dma (slotQ 1)
  | .inr (.inl i) => .dma (sendQ i)
  | .inr (.inr i) => .dma (recvQ i)

theorem ownSemFacts : Pipeline.OwnSemFacts cfg0.spec osem := by decide +kernel

theorem share_eq (w : Fin cfg0.W) : (dats m ρ 0 c).share w = fullShare := by unfold Dat.share; split <;> rfl

theorem csem_injective : Function.Injective csem := by
  unfold Function.Injective; decide +kernel
theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def ringCells : Finset (GSem nD τ sig) := Finset.univ.map ⟨kcell, kcell_injective⟩

def tokOf (ck : Dev nD × CK) : GSem nD τ sig × ℕ × Unit := (kcell ck, 0, ())
theorem tokOf_injective : Function.Injective tokOf := fun a b h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), (initOf ringCells ringToks, 1))

/-- A family over the cells' kinds, in the order the body takes them. -/
theorem bigSep_CK (Φ : CK → sProp 𝕄) : bigSep Finset.univ Φ
    = iprop((Φ (.inl 0) ∗ Φ (.inl 1) ∗ Φ (.inl 2)) ∗ bigSep Finset.univ (fun i : Fin 8 => Φ (.inr (.inl i))) ∗ bigSep Finset.univ (fun i : Fin 8 => Φ (.inr (.inr i)))) := by
  rw [BI.bigSep_univ_sum, BI.bigSep_univ_sum, bigSep_univ_eq_bigSepL [0, 1, 2] (by decide) (by decide) (fun a : Fin 3 => Φ (.inl a))]; rfl

def toks : sProp 𝕄 := bigSep Finset.univ (fun k : CK => dutyTok ER (kcell (c, k)) 0 ())

def G : sProp 𝕄 :=
  iprop((bigSep Finset.univ fun k : CK => roundState ER (Rd m) (kcell (c, k)) 0)
    ∗ (bigSep Finset.univ fun k : CK => atPos ER (kcell (c, k)) 0 ∅ 0) ∗ (bigSep Finset.univ fun k : CK => reached ER (kcell (c, k)) 0) ∗ toks c)

def linear : sProp 𝕄 := iprop(posns c ∗ payToks c ∗ localSems c)
def G' : sProp 𝕄 := iprop((∃ K, records m K) ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem ownSems0_eq : (Pipeline.ownSems0 (Ix := Unit) (Name := ℕ) (U := UU) (Lvl := ℕ) (Val := Elt F) (τ := τ) osem c : sProp 𝕄)
    = iprop((semVal (ssendCell c) 0 ∗ semVal (srecvCell c) 0 ∗ localSems c)
        ∗ bigSep Finset.univ (fun i : Fin 8 => semVal (sendCell c i) 0) ∗ bigSep Finset.univ (fun i : Fin 8 => semVal (recvCell c i) 0)) := by
  unfold Pipeline.ownSems0 localSems
  rw [BI.bigSep_univ_sum, BI.bigSep_univ_sum, bigSep_univ_eq_bigSepL [0, 1, 2, 3, 4] (by decide) (by decide) (fun a : Fin 5 => _)]; rfl
theorem unscopedSems0_eq : (unscopedSems0 c : sProp 𝕄) = semVal (barCell c) 0 := by
  unfold unscopedSems0; rw [bigSep_eq_bigSepL_of_eq [SemLoc.reg barS] (by decide) (by decide)]; rfl

theorem sems0_eq : iprop(Pipeline.ownSems0 (Ix := Unit) (Name := ℕ) (U := UU) (Lvl := ℕ) (Val := Elt F) (τ := τ) osem c ∗ unscopedSems0 c)
      ⊢ iprop((bigSep Finset.univ fun k : CK => semVal (kcell (c, k)) 0) ∗ localSems c : sProp 𝕄) := by
  rw [ownSems0_eq, unscopedSems0_eq, bigSep_CK]
  iintro ⟨⟨⟨HS, HR, HL⟩, Hs, Hr⟩, HB⟩
  isplitr [HL]
  · isplitl [HB HS HR]
    · isplitl [HB]; · iexact HB
      isplitl [HS]; · iexact HS
      iexact HR
    isplitl [Hs]; · iexact Hs
    iexact Hr
  iexact HL

/-- A device's cells, allocated. -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => reached ER (kcell (c, k)) 0) ∗ (bigSep Finset.univ fun k : CK => atPos ER (kcell (c, k)) 0 ∅ 0) ∗ toks c ∗ localSems c) := by
  have hal : iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hat, Hre, Htok⟩
  ihave Hv := (sems0_eq (F := F) c) $$ [Hos Hus]
  · isplitl [Hos] <;> iassumption
  icases Hv with ⟨Hv, HL⟩
  imod hal $$ [Hv Hst] with Hinv
  · isplitl [Hv] <;> iassumption
  imodintro
  isplitl [Hinv]; · iexact Hinv
  isplitl [Hre]; · iexact Hre
  isplitl [Hat]; · iexact Hat
  isplitl [Htok]; · iexact Htok
  iexact HL

/-- The tokens dealt across: the barrier's and the receive cells' to the peer. -/
theorem toks_across : (bigSep Finset.univ fun c : Dev nD => (toks c : sProp 𝕄)) ⊢ bigSep Finset.univ fun c : Dev nD => payToks c := by
  unfold toks payToks
  simp only [bigSep_CK, bigSep_sep']
  rw [bigSep_univ_equiv peers (fun c : Dev nD => (dutyTok ER (kcell (c, .inl 0)) 0 () : sProp 𝕄)),
    bigSep_univ_equiv peers (fun c : Dev nD => (dutyTok ER (kcell (c, .inl 2)) 0 () : sProp 𝕄)),
    bigSep_univ_equiv peers (fun c : Dev nD => (bigSep Finset.univ (fun i : Fin 8 => dutyTok ER (kcell (c, .inr (.inr i))) 0 ()) : sProp 𝕄))]
  iintro ⟨⟨H1, H2, H3⟩, H4, H5⟩
  isplitl [H1]; · iexact H1
  isplitl [H2]; · iexact H2
  isplitl [H3]; · iexact H3
  isplitl [H4]; · iexact H4
  iexact H5

theorem with_records {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem posns_eq : (bigSep Finset.univ fun k : CK => atPos ER (kcell (c, k)) 0 ∅ 0 : sProp 𝕄) ⊢ posns c := by
  unfold posns
  rw [bigSep_CK]
  iintro ⟨⟨H1, H2, H3⟩, H4, H5⟩
  isplitl [H1]; · iexact H1
  isplitl [H2]; · iexact H2
  isplitl [H3]; · iexact H3
  isplitl [H4]; · iexact H4
  iexact H5

theorem regroup :
    (bigSep Finset.univ fun c : Dev nD => iprop((bigSep Finset.univ fun k : CK => iprop(∃ κ : ℕ, cellInv ER (Rd m) κ (kcell (c, k))))
          ∗ (bigSep Finset.univ fun k : CK => reached ER (kcell (c, k)) 0) ∗ (bigSep Finset.univ fun k : CK => atPos ER (kcell (c, k)) 0 ∅ 0) ∗ toks c ∗ localSems c) : sProp 𝕄)
      ⊢ bigSep Finset.univ (G' m) := by
  rw [bigSep_sep', bigSep_sep', bigSep_sep', bigSep_sep', ← bigSep_univ_prod (fun ck : Dev nD × CK => iprop(∃ κ : ℕ, cellInv ER (Rd m) κ (kcell ck))),
    ← bigSep_univ_prod (fun ck : Dev nD × CK => (reached ER (kcell ck) 0 : sProp 𝕄))]
  have hpos : (bigSep Finset.univ fun c : Dev nD => bigSep Finset.univ fun k : CK => atPos ER (kcell (c, k)) 0 ∅ 0 : sProp 𝕄) ⊢ bigSep Finset.univ fun c : Dev nD => posns c :=
    bigSep_mono fun c _ => posns_eq c
  have hlin : iprop((bigSep Finset.univ fun c : Dev nD => posns c) ∗ (bigSep Finset.univ fun c : Dev nD => payToks c) ∗ bigSep Finset.univ fun c : Dev nD => localSems c)
      ⊢ (bigSep Finset.univ fun c : Dev nD => linear c : sProp 𝕄) := by
    unfold linear; rw [bigSep_sep', bigSep_sep']
  iintro ⟨HI, #HR, Hat, Htok, HL⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_across (F := F)) $$ Htok
  ihave Hat := hpos $$ Hat
  ihave Hl := hlin $$ [Hat Htk HL]
  · isplitl [Hat]; · iexact Hat
    isplitl [Htk]; · iexact Htk
    iexact HL
  have hw : iprop(records m K ∗ bigSep Finset.univ fun c : Dev nD => linear c) ⊢ (bigSep Finset.univ (G' m) : sProp 𝕄) :=
    with_records (fun c _ => by
      unfold G'
      iintro ⟨H, Hl⟩
      isplitl [H]; · iexists K; iexact H
      iexact Hl)
  iapply hw
  isplitr
  · unfold records; rw [bigSep_sep']
    isplitl; · iexact HI
    iexact HR
  iexact Hl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem kcell_eq {d e : Dev nD} {k k' : CK} (h : kcell (d, k) = kcell (e, k')) : d = e ∧ k = k' := by
  have := kcell_injective h; exact ⟨congrArg Prod.fst this, congrArg Prod.snd this⟩

theorem owed_at (d : Dev nD) (k : CK) : O₀ d (kcell (c, k)) ()
    = if d = peer c then (match k with | .inl 0 => 1 | .inl 1 => 0 | .inl 2 => Ns | .inr (.inl _) => 0 | .inr (.inr _) => Nt) else 0 := by
  have e : ∀ (k' : CK) (N : ℕ), (tallyAt (kcell (peer d, k')) () N : CellTallies nD τ sig Unit) (kcell (c, k)) () = if d = peer c ∧ k = k' then N else 0 := by
    intro k' N
    rw [tallyAt_apply]
    refine if_congr ⟨fun h => ?_, fun h => ?_⟩ rfl rfl
    · have := kcell_eq h.1
      exact ⟨by rw [this.1, peer_peer], this.2⟩
    · rw [h.1, peer_peer, h.2]; exact ⟨rfl, rfl⟩
  unfold O₀ Od
  rw [Pi.add_apply, Finsupp.add_apply, Pi.add_apply, Finsupp.add_apply, Finset.sum_apply, Finsupp.finset_sum_apply,
    Finset.filter_true_of_mem (fun i _ => Nat.zero_le _)]
  refine (congrArg₂ (· + ·) (congrArg₂ (· + ·) (Finset.sum_congr rfl fun i _ => e (.inr (.inr i)) Nt) (e (.inl 2) Ns)) (e (.inl 0) 1)).trans ?_
  by_cases hd : d = peer c
  · simp only [hd, true_and, if_true]
    rcases k with k | i | i
    · fin_cases k <;> simp
    · simp
    · simp
  · simp [hd]

theorem launch_at (k : CK) (N : ℕ) (hN : (match k with | .inl 0 => 1 | .inl 1 => 0 | .inl 2 => Ns | .inr (.inl _) => 0 | .inr (.inr _) => Nt) = N) :
    tallyOn (kcell (c, k)) (launchCredit (Pipeline.owing O₀) 0 (kcell (c, k))) = (tallyAt (kcell (c, k)) () N : CellTallies nD τ sig Unit) := by
  unfold tallyAt; refine congrArg _ (Finsupp.ext fun u => ?_); cases u
  rw [Pipeline.launchCredit_owing, Finsupp.single_eq_same, Finset.sum_congr rfl fun d _ => owed_at c d k,
    Finset.sum_ite_eq' Finset.univ (peer c), if_pos (Finset.mem_univ _), hN]

theorem creds : (Pipeline.launchCred O₀ c : sProp 𝕄) ⊢ credits c := by
  unfold Pipeline.launchCred credits
  refine (bigSep_subset (t := Finset.univ.map ⟨csem, csem_injective⟩) (Finset.subset_univ _)).trans ?_
  rw [bigSep_map, bigSep_CK]
  show iprop((cred (tallyOn (kcell (c, .inl 0)) (launchCredit (Pipeline.owing O₀) 0 (kcell (c, .inl 0))))
      ∗ _ ∗ cred (tallyOn (kcell (c, .inl 2)) (launchCredit (Pipeline.owing O₀) 0 (kcell (c, .inl 2)))))
      ∗ _ ∗ bigSep Finset.univ (fun i : Fin 8 => cred (tallyOn (kcell (c, .inr (.inr i))) (launchCredit (Pipeline.owing O₀) 0 (kcell (c, .inr (.inr i))))))) ⊢ _
  rw [launch_at c (.inl 0) 1 rfl, launch_at c (.inl 2) Ns rfl, bigSep_congr (fun i _ => congrArg cred (launch_at c (.inr (.inr i)) Nt rfl))]
  iintro ⟨⟨H1, -, H2⟩, -, H3⟩
  isplitl [H1]; · iexact H1
  isplitl [H2]; · iexact H2
  iexact H3

/-! ## The launch's side conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' linear wAll
  iintro ⟨⟨Hw, Ho, Hc⟩, Hlev, Hcr, -, HK, H1, H2, H3⟩
  ihave Hcr := (creds (F := F) c) $$ Hcr
  imodintro
  isplitl
  · isplitl [HK]; · iexact HK
    isplitl [Hlev]; · iexact Hlev
    isplitl [H1]; · iexact H1
    isplitl [H2]; · iexact H2
    isplitl [Hcr]; · iexact Hcr
    isplitl [H3]; · iexact H3
    isplitl [Hw]; · iexact Hw
    isplitl [Ho]
    · iapply (owns_held (c : Thread nD τ) oM _)
      iapply (owns_of_whole (c : Thread nD τ) main_v1_0 fullShare _)
      iexact Ho
    iapply (owns_held (c : Thread nD τ) cM _)
    iapply (owns_of_whole (c : Thread nD τ) main_v1_1 fullShare _)
    iexact Hc
  · iempintro

theorem held_whole (b : Ref sig .tc) :
    iprop(∃ f : Buf (Elt F) ((c : Thread nD τ).loc b), ((c : Thread nD τ).loc b) ↦{fullShare} f) ⊢ (held (c : Thread nD τ) (Memref.whole b) : sProp 𝕄) := by
  iintro ⟨%f, H⟩
  iapply (owns_held (c : Thread nD τ) (Memref.whole b) f)
  iapply (owns_of_whole (c : Thread nD τ) b fullShare f)
  iexact H
theorem whole_held (b : Ref sig .tc) :
    (held (c : Thread nD τ) (Memref.whole b) : sProp 𝕄) ⊢ iprop(∃ f : Buf (Elt F) ((c : Thread nD τ).loc b), ((c : Thread nD τ).loc b) ↦{fullShare} f) := by
  unfold held
  iintro ⟨%f, H⟩
  iexists f
  iapply (whole_of_owns (c : Thread nD τ) b fullShare f)
  iexact H

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, H0, H1, H2, H3⟩
  isplitl [Hs]; · iexact Hs
  isplitl [H0]; · iapply (held_whole c cc0_scratch0); iexact H0
  isplitl [H1]; · iapply (held_whole c cc0_scratch1); iexact H1
  isplitl [H2]; · iapply (held_whole c cc0_scratch2); iexact H2
  iapply (held_whole c cc0_scratch3); iexact H3

def fin : sProp 𝕄 := iprop(unscopedSems0 c ∗ wAll m c ∗ outAll m c)

theorem phi1_exit :
    (dats m ρ 0 c).Φ (Fin.last cfg0.N) ⊢ iprop(fin m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ fin scratch closed
  rw [unscopedSems0_eq]
  iintro ⟨⟨HB, HS, HR, Hs, Hr⟩, HL, Hw, Ho, H0, H1, H2, H3⟩
  isplitl [HB Hw Ho]
  · isplitl [HB]; · iexact HB
    isplitl [Hw]; · iexact Hw
    iexact Ho
  isplitl [HS HR HL Hs Hr]
  · isplitl [HS HR HL]
    · isplitl [HS]; · iexact HS
      isplitl [HR]; · iexact HR
      iexact HL
    isplitl [Hs]; · iexact Hs
    iexact Hr
  isplitl [H0]; · iapply (whole_held c cc0_scratch0); iexact H0
  isplitl [H1]; · iapply (whole_held c cc0_scratch1); iexact H1
  isplitl [H2]; · iapply (whole_held c cc0_scratch2); iexact H2
  iapply (whole_held c cc0_scratch3); iexact H3

theorem waits : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_start c _ (by fin_cases w <;> fin_cases s <;> decide)
    · exact mayWait_free c _

/-! ## The run -/

def QY (s : MemSt nD τ sig (Elt F)) : Prop :=
  s.mem ((c : Thread nD τ).loc main_arg1) = m ((c : Thread nD τ).loc main_arg1)
    ∧ s.mem ((c : Thread nD τ).loc main_v1_0) = outV m c
    ∧ ∀ sm : SemLoc sig, sm.isScoped .tc = false → s.sem ((c.tc : Thread nD τ), sm) = 0

def QC (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1_0) = outV m c) ∧ r.2.sem = fun _ => 0

set_option maxRecDepth 8000 in
theorem run_main : θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m c ρ) (hne := fun w => by fin_cases w <;> exact Nat.succ_pos _) (harr := arr_whole0) (hstage := stage_whole0) (hshare := fun c w => share_eq m c ρ w)
    (hdistinct := winFacts0.arr_inj)
    (O₀ := O₀) (howed₀ := fun _ => rfl) (howedN := fun _ => rfl)
    (L := L) (lv := lv) (hL := L_of_ne) (hwaits := fun c => waits m c ρ)
    (G := G m) (G' := G' m) (u₀ := u₀)
    (hu₀ := by
      unfold u₀
      iintro Hu
      ihave H := (ownU_pair _ _) $$ Hu
      icases H with ⟨HP, HX⟩
      ihave HX := (own_pair_emb (embR : Emb (UR sig nD τ × Counters) 𝕄) _ _) $$ HX
      icases HX with ⟨HX, -⟩
      ihave HX := (show (BI.own (((Emb.inl : Emb (UR sig nD τ) (UR sig nD τ × Counters)).trans embR) (initOf ringCells ringToks)) : sProp 𝕄) ⊢ BI.own (ER (initOf ringCells ringToks)) from BI.Entails.refl _) $$ HX
      imod (fund_ring m) $$ HX with HG
      imodintro
      isplitl [HP] <;> iassumption)
    (hglob := glob m)
    (hA := fun _ _ => rfl) (hpf := fun _ k => k.elim0)
    (X := start m) (Y := fin m) (Z := fun _ => iprop(emp))
    (hX := fun c => start_intro m c ρ) (hin := fun c => phi0_intro m c ρ) (hout := fun c => phi1_exit m c ρ)
    (QY := fun c s => QY m c s)
    (hY := fun c s' => by
      unfold fin wAll outAll
      iintro ⟨⟨Hu, Hw, Ho⟩, -, HSI⟩
      icombine HSI Hw gives %hw
      icombine HSI Ho gives %ho
      imod (Pipeline.unscopedSems0_read (X := unscopedSems0 c) (c := c) fupd_intro s') $$ [Hu HSI] with ⟨%hs, HSI⟩
      · isplitl [Hu] <;> iassumption
      imodintro
      isplitr
      · ipureintro
        exact ⟨Buf.eq_of_forall_mem_univ hw, Buf.eq_of_forall_mem_univ ho, hs⟩
      iexact HSI)
    (hQ := fun _ h hs => ⟨fun c => ⟨((h c).1 (0 : Fin 1)).trans ((dats (F := F) m ρ 0 c).arrAt_in (0 : Fin 1) rfl _), (h c).2.2.1, (h c).2.2.2.1⟩,
      sem_eq_zero hs fun c => (h c).2.2.2.2⟩)

end Softmax
-- ==== Proof.Payloads.lean ====
/-
  The kernel's arithmetic over the extended reals, read at one element.
-/
module

public import proofs.«01_k».proof.Proof.Tiles
public import Idealize.ShloMosaic.Lib.Pointwise

@[expose] public section

noncomputable section

namespace Softmax

open Cert.KernelIdeal Cert.KernelIdeal.Gen
open Idealize.ShloMosaic
open Idealize.ShloMosaic.TcCoe
open scoped BigOperators

/-- An exponential of a chunk: of the sum over the inner dimension. -/
theorem pay4_at (x : S2048x4096.Idx → EReal) (w : S1x4096x512.Idx → EReal) (t : Fin 2048) (v : Fin 512) :
    k0_pay4 (F := Ideal) x w (ix2 t v) = Ideal.exp (∑ d : Fin 4096, x (ix2 t d) * w (ix3 0 d v)) := by
  pointwise [k0_pay4]

/-- One more chunk's exponentials added to a row's sum. -/
theorem pay5_at (x : S2048x4096.Idx → EReal) (w : S1x4096x512.Idx → EReal) (s : S2048x1.Idx → EReal) (t : Fin 2048) :
    k0_pay5 (F := Ideal) x w s (ix2 t 0) = s (ix2 t 0) + ∑ v : Fin 512, k0_pay4 (F := Ideal) x w (ix2 t v) := by
  pointwise [k0_pay5]

theorem pay7_at (t : Fin 2048) : k0_pay7 (F := Ideal) (ix2 t 0) = 0 := by
  pointwise [k0_pay7]

/-- The reciprocal of the two halves' sums. -/
theorem pay2_at (a b : S2048x1.Idx → EReal) (t : Fin 2048) :
    k0_pay2 (F := Ideal) a b (ix2 t 0) = Ideal.div 1 (a (ix2 t 0) + b (ix2 t 0)) := by
  pointwise [k0_pay2]

theorem pay6_at (r : S2048x1.Idx → EReal) (e : S2048x1024.Idx → EReal) (t : Fin 2048) (v : Fin 1024) :
    k0_pay6 (F := Ideal) r e (ix2 t v) = e (ix2 t v) * r (ix2 t 0) := by
  pointwise [k0_pay6]

theorem pay3_at (a b : S2048x1.Idx → EReal) (e : S2048x1024.Idx → EReal) (t : Fin 2048) (v : Fin 1024) :
    k0_pay3 (F := Ideal) a b e (ix2 t v) = e (ix2 t v) * k0_pay2 (F := Ideal) a b (ix2 t 0) := by
  pointwise [k0_pay3]

end Softmax
-- ==== Proof.KernelValue.lean ====
/-
  The kernel's result over the extended reals, read at one element: the exponential of the element's
  logit times the reciprocal of the sum of all the exponentials of its row.
-/
module

public import proofs.«01_k».proof.Proof.Payloads

@[expose] public section

noncomputable section

namespace Softmax

open Cert.KernelIdeal Cert.KernelIdeal.Gen
open Idealize.ShloMosaic
open Idealize.ShloMosaic.TcCoe
open scoped BigOperators

variable (m : (ℓ : Loc nD τ sig) → Buf (Elt Ideal) ℓ)
variable (X : S2048x4096.Idx → EReal) (W : (⟨2, ![4096, 16384]⟩ : Shape).Idx → EReal)

/-- The exponential of the logit of row `t` and column `u`; 0 past the last column. -/
def wt (t : Fin 2048) (u : ℕ) : EReal :=
  if h : u < 16384 then Ideal.exp (∑ d : Fin 4096, X (ix2 t d) * W (ix2 d ⟨u, h⟩)) else 0

theorem col_lt (c : Dev nD) (u : Fin 8192) : 8192 * (place c).val + u.val < 16384 := by
  have := (place c).isLt
  omega

/-! ## What is staged -/

theorem stgX_eq (c : Dev nD) : stgX m c = m ((c : Thread nD τ).loc main_arg0) :=
  Memref.read_access_unit_zero (Elt Ideal) main_arg0 (funext fun a => by fin_cases a <;> decide) (fun a => by fin_cases a <;> decide) _

theorem chunk_col (k : Fin 16) (v : Fin 512) : 512 * k.val + v.val < 8192 := by omega

theorem wcol_at (c : Dev nD) (k : Fin 16) (d : Fin 4096) (v : Fin 512) :
    wcol m c k (ix2 d v) = m ((c : Thread nD τ).loc main_arg1) (ix2 d ⟨512 * k.val + v.val, chunk_col k v⟩) := by
  show m ((c : Thread nD τ).loc main_arg1) ((Rect.unit (s := S4096x8192) ![0, 512 * k.val] S4096x512.size (wch_inb k)).emb (ix2 d v)) = _
  refine congrArg _ (funext fun a => Fin.ext ?_)
  fin_cases a
  · show 0 + 1 * d.val = d.val
    omega
  · show 512 * k.val + 1 * v.val = 512 * k.val + v.val
    omega

theorem wslot_at (c : Dev nD) (k : Fin 16) (d : Fin 4096) (v : Fin 512) : wslot m c k (ix3 0 d v) = wcol m c k (ix2 d v) := by
  refine congrArg (wcol m c k) ?_
  rw [Equiv.symm_apply_eq]
  pointwise

section

variable (hX : ∀ c : Dev nD, m ((c : Thread nD τ).loc main_arg0) = X)
variable (hW : ∀ (c : Dev nD) (d : Fin 4096) (u : Fin 8192),
  m ((c : Thread nD τ).loc main_arg1) (ix2 d u) = W (ix2 d ⟨8192 * (place c).val + u.val, col_lt c u⟩))
include hX hW

/-! ## The exponentials and their sums -/

theorem ech_at (c : Dev nD) (k : Fin 16) (t : Fin 2048) (v : Fin 512) :
    ech m c k (ix2 t v) = wt X W t (8192 * (place c).val + (512 * k.val + v.val)) := by
  have hu := col_lt c ⟨512 * k.val + v.val, chunk_col k v⟩
  rw [wt, dif_pos hu, ech, pay4_at, stgX_eq, hX]
  refine congrArg _ (Finset.sum_congr rfl fun d _ => ?_)
  rw [wslot_at, wcol_at, hW]

theorem sumN_at (c : Dev nD) (t : Fin 2048) : ∀ n : ℕ, n ≤ 16 →
    sumN m c n (ix2 t 0) = ∑ u ∈ Finset.range (512 * n), wt X W t (8192 * (place c).val + u)
  | 0, _ => by rw [sumN, pay7_at]; rfl
  | n + 1, h => by
    rw [sumN_succ m c ⟨n, h⟩, pay5_at, sumN_at c t n (Nat.le_of_succ_le h), Nat.mul_succ, Finset.sum_range_add]
    refine congrArg _ ?_
    rw [Finset.sum_range]
    exact Finset.sum_congr rfl fun v _ => ech_at m X W hX hW c ⟨n, h⟩ t v

/-- The two halves' sums make the row's. -/
theorem sums_at (c : Dev nD) (t : Fin 2048) :
    sumC m c (ix2 t 0) + sumC m (peer c) (ix2 t 0) = ∑ u ∈ Finset.range 16384, wt X W t u := by
  have e : ∑ u ∈ Finset.range 16384, wt X W t u
      = ∑ u ∈ Finset.range 8192, wt X W t (8192 * 0 + u) + ∑ u ∈ Finset.range 8192, wt X W t (8192 * 1 + u) := by
    rw [show (16384 : ℕ) = 8192 + 8192 from rfl, Finset.sum_range_add]
    simp only [Nat.mul_zero, Nat.zero_add, Nat.mul_one]
  have h : ∀ c' : Dev nD, sumC m c' (ix2 t 0) = ∑ u ∈ Finset.range 8192, wt X W t (8192 * (place c').val + u) :=
    fun c' => sumN_at m X W hX hW c' t 16 le_rfl
  rw [e, h, h]
  have hp : (place c).val = 0 ∧ (place (peer c)).val = 1 ∨ (place c).val = 1 ∧ (place (peer c)).val = 0 := by
    clear hX hW e h
    revert c; decide
  rcases hp with ⟨h0, h1⟩ | ⟨h0, h1⟩
  · rw [h0, h1]
  · rw [h0, h1]
    exact add_comm _ _

theorem eTile_at (c : Dev nD) (i : Fin 8) (t : Fin 2048) (v : Fin 1024) :
    eTile m c i (ix2 t v) = wt X W t (8192 * (place c).val + (1024 * i.val + v.val)) := by
  have e : inHalf (ix2 t v : S2048x1024.Idx) = ix2 t ⟨v.val % 512, Nat.mod_lt _ (by decide)⟩ := by
    refine funext fun a => Fin.ext ?_
    fin_cases a
    · show t.val % 2048 = t.val
      exact Nat.mod_eq_of_lt t.isLt
    · rfl
  rw [eTile, e, ech_at m X W hX hW]
  refine congrArg (wt X W t) ?_
  show 8192 * (place c).val + (512 * (2 * i.val + v.val / 512) + v.val % 512) = _
  omega

/-! ## The result -/

theorem outV_at (c : Dev nD) (t : Fin 2048) (v : Fin 16384) :
    outV m c (ix2 t v) = wt X W t v.val * Ideal.div 1 (∑ u ∈ Finset.range 16384, wt X W t u) := by
  have hj : v.val % 1024 < 1024 := Nat.mod_lt _ (by decide)
  have e : inTile (ix2 t v : S2048x16384.Idx) = ix2 t ⟨v.val % 1024, hj⟩ := by
    refine funext fun a => Fin.ext ?_
    fin_cases a
    · show t.val % 2048 = t.val
      exact Nat.mod_eq_of_lt t.isLt
    · rfl
  have hv := v.isLt
  have h2 : ∀ x y z : ℕ, x < 2 → y < 2 → z < 2 → x ≠ y → z ≠ x → z = y := by omega
  have hp := place_ne c
  have hv0 := (place c).isLt
  have hv1 := (place (peer c)).isLt
  have h8 : ∀ x, v.val / 8192 = x → 8192 * x + (1024 * (tileOf (ix2 t v : S2048x16384.Idx)).val + v.val % 1024) = v.val := by
    intro x hx
    show 8192 * x + (1024 * (v.val % 8192 / 1024) + v.val % 1024) = v.val
    omega
  rw [← sums_at m X W hX hW c t]
  by_cases hc : v.val / 8192 = (place c).val
  · have eo : outV m c (ix2 t v) = ownOut m c (tileOf (ix2 t v : S2048x16384.Idx)) (inTile (ix2 t v : S2048x16384.Idx)) := if_pos hc
    rw [eo, e, ownOut, pay6_at, pay2_at, eTile_at m X W hX hW]
    show wt X W t (8192 * (place c).val + (1024 * _ + v.val % 1024)) * _ = _
    rw [h8 _ hc]
  · have hc' : v.val / 8192 = (place (peer c)).val := h2 _ _ _ hv0 hv1 (by omega) (Ne.symm hp) hc
    have eo : outV m c (ix2 t v) = peerOut m c (tileOf (ix2 t v : S2048x16384.Idx)) (inTile (ix2 t v : S2048x16384.Idx)) := if_neg hc
    rw [eo, e, peerOut, pay3_at, pay2_at, eTile_at m X W hX hW]
    show wt X W t (8192 * (place (peer c)).val + (1024 * _ + v.val % 1024)) * _ = _
    rw [h8 _ hc']

end

end Softmax
-- ==== Proof.RefValue.lean ====
/-
  The reference's result over the extended reals, read at one element.
-/
module

public import proofs.«01_k».proof.Proof.Gen.ReferenceIdeal
public import Idealize.ShloMosaic.Lib.Pointwise

@[expose] public section

noncomputable section

namespace Softmax

open Cert.ReferenceIdeal Cert.ReferenceIdeal.Gen
open Idealize.ShloMosaic
open Idealize.ShloMosaic.TcCoe
open scoped BigOperators

/-- The reference's logits. -/
def refLogits (x : S2048x4096.Idx → EReal) (w : S4096x16384.Idx → EReal) : S2048x16384.Idx → EReal :=
  Host.dotGeneral (F := Ideal) (φ₁ := .f32) (φ₂ := .f32) dot_S2048x4096_S4096x16384_S2048x16384_1_0_0_1_n_n none x w

theorem refLogits_at (x : S2048x4096.Idx → EReal) (w : S4096x16384.Idx → EReal) (t : Fin 2048) (v : Fin 16384) :
    refLogits x w (ix2 t v) = ∑ d : Fin 4096, x (ix2 t d) * w (ix2 d v) := by
  pointwise [refLogits]

/-- What the reference makes of the logits. -/
def refSoft (l : S2048x16384.Idx → EReal) : S2048x16384.Idx → EReal :=
  Host.divf (F := Ideal) (φ := .f32) (Host.exp (subf l (broadcastInDim S2048x16384 ![0, 1] bcast_S2048x1_S2048x16384_0_1 (broadcastInDim S2048x1 ![0] bcast_S2048_S2048x1_0 (Host.reduce FloatOps.maximumf l (constant S_ .f32 0xFF800000#32) reducesTo_S2048x16384_S2048_d1 h_S_)))))
    (broadcastInDim S2048x16384 ![0, 1] bcast_S2048x1_S2048x16384_0_1 (broadcastInDim S2048x1 ![0] bcast_S2048_S2048x1_0 (Host.reduceAdd (Host.exp (subf l (broadcastInDim S2048x16384 ![0, 1] bcast_S2048x1_S2048x16384_0_1 (broadcastInDim S2048x1 ![0] bcast_S2048_S2048x1_0 (Host.reduce FloatOps.maximumf l (constant S_ .f32 0xFF800000#32) reducesTo_S2048x16384_S2048_d1 h_S_))))) (constant S_ .f32 0x00000000#32) reducesTo_S2048x16384_S2048_d1 h_S_)))

/-- A row's maximum as the reference folds it. -/
def rowMax (l : S2048x16384.Idx → EReal) (t : Fin 2048) : EReal :=
  Finset.univ.fold max (Ideal.ofBits .f32 0xFF800000#32) fun v : Fin 16384 => l (ix2 t v)

theorem refSoft_at (l : S2048x16384.Idx → EReal) (t : Fin 2048) (v : Fin 16384) :
    refSoft l (ix2 t v) = Ideal.div (Ideal.exp (l (ix2 t v) - rowMax l t)) (∑ u : Fin 16384, Ideal.exp (l (ix2 t u) - rowMax l t)) := by
  pointwise [refSoft, rowMax]

end Softmax
-- ==== Proof.Equation.lean ====
/-
  Softmax over the reals: subtracting a row's maximum from its logits changes no quotient.
-/
module

public import Idealize.ShloMosaic.Lib.IdealHost
public import Idealize.ShloMosaic.PureOps.Ideal

@[expose] public section

noncomputable section

namespace Softmax

open Real
open Idealize.ShloMosaic
open Idealize.ShloMosaic.TcCoe
open scoped BigOperators

/-- A finite sum of reals, taken among the extended reals. -/
theorem coe_total {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A product of two finite values is finite. -/
theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

/-- A finite sum of finite values is finite. -/
theorem real_total {ι : Type} (s : Finset ι) (f : ι → EReal) (h : ∀ i, ∃ r : ℝ, f i = r) : ∃ r : ℝ, ∑ i ∈ s, f i = r := by
  choose g hg using h
  exact ⟨∑ i ∈ s, g i, by rw [← coe_total]; exact Finset.sum_congr rfl fun i _ => hg i⟩

/-- The maximum of finitely many reals, at least one, from below all of them, is a real. -/
theorem real_max {ι : Type} (s : Finset ι) (hs : s.Nonempty) (f : ι → ℝ) :
    ∃ r : ℝ, (s.fold max (⊥ : EReal) fun i => (f i : EReal)) = r := by
  classical
  induction hs using Finset.Nonempty.cons_induction with
  | singleton a => exact ⟨f a, by simp⟩
  | cons a s h hs ih =>
    obtain ⟨r, hr⟩ := ih
    refine ⟨max (f a) r, ?_⟩
    rw [Finset.fold_cons, hr]
    exact (EReal.coe_strictMono.monotone.map_max).symm

/-- The quotient is the same whatever real is subtracted from every logit. -/
theorem soft_eq {ι : Type} [Fintype ι] [Nonempty ι] (l : ι → ℝ) (M : ℝ) (i : ι) :
    Ideal.div (Ideal.exp ((l i : EReal) - (M : EReal))) (∑ j, Ideal.exp ((l j : EReal) - (M : EReal)))
      = Ideal.exp (l i : EReal) * Ideal.div 1 (∑ j, Ideal.exp (l j : EReal)) := by
  have hs : ∀ j, Ideal.exp ((l j : EReal) - (M : EReal)) = ((Real.exp (l j - M) : ℝ) : EReal) := fun j => by
    rw [← EReal.coe_sub]; rfl
  have he : ∀ j, Ideal.exp (l j : EReal) = ((Real.exp (l j) : ℝ) : EReal) := fun j => rfl
  have p1 : 0 < ∑ j, Real.exp (l j - M) := Finset.sum_pos (fun j _ => Real.exp_pos _) Finset.univ_nonempty
  have p2 : 0 < ∑ j, Real.exp (l j) := Finset.sum_pos (fun j _ => Real.exp_pos _) Finset.univ_nonempty
  simp only [hs, he, coe_total]
  rw [Ideal.div_coe p1.ne', Ideal.div_coe p2.ne', one_mul, ← EReal.coe_mul, ← EReal.coe_mul]
  congr 1
  have e : ∑ j, Real.exp (l j - M) = (∑ j, Real.exp (l j)) * Real.exp (-M) := by
    rw [Finset.sum_mul]
    exact Finset.sum_congr rfl fun j _ => by rw [← Real.exp_add, sub_eq_add_neg]
  rw [e, sub_eq_add_neg, Real.exp_add]
  have hM := (Real.exp_pos (-M)).ne'
  field_simp

end Softmax
-- ==== Proof.Algebraic.lean ====
/-
  From finite inputs the kernel's result is the reference's, element by element.
-/
module

public import proofs.«01_k».proof.Proof.KernelValue
public import proofs.«01_k».proof.Proof.RefValue
public import proofs.«01_k».proof.Proof.Equation
public import proofs.«01_k».proof.Defs

@[expose] public section

noncomputable section

namespace Softmax

open Cert.KernelIdeal
open Idealize.ShloMosaic
open Idealize.ShloMosaic.TcCoe
open scoped BigOperators

/-- The bit pattern of minus infinity. -/
theorem ofBits_bot : Ideal.ofBits .f32 0xFF800000#32 = ⊥ := by
  simp [Ideal.ofBits, Ideal.ieee]

/-- The bit pattern of infinity. -/
theorem ofBits_top : Ideal.ofBits .f32 0x7F800000#32 = ⊤ := by
  simp [Ideal.ofBits, Ideal.ieee]

variable (X : S2048x4096.Idx → EReal) (W : (⟨2, ![4096, 16384]⟩ : Shape).Idx → EReal)
variable (m : (ℓ : Loc nD τ sig) → Buf (Elt Ideal) ℓ)
variable (hX : ∀ c : Dev nD, m ((c : Thread nD τ).loc main_arg0) = X)
variable (hW : ∀ (c : Dev nD) (d : Fin 4096) (u : Fin 8192),
  m ((c : Thread nD τ).loc main_arg1) (ix2 d u) = W (ix2 d ⟨8192 * (place c).val + u.val, col_lt c u⟩))
variable (fX : ∀ i, ∃ r : ℝ, X i = r) (fW : ∀ i, ∃ r : ℝ, W i = r)
include hX hW fX fW

/-- The two results are equal. -/
theorem value_eq (c : Dev nD) : outV m c = refSoft (refLogits X W) := by
  funext p
  obtain ⟨t, v, rfl⟩ : ∃ (t : Fin 2048) (v : Fin 16384), p = ix2 t v := ⟨p 0, p 1, eq_ix2 p⟩
  have hl : ∀ u : Fin 16384, ∃ r : ℝ, refLogits X W (ix2 t u) = r := fun u => by
    rw [refLogits_at]
    exact real_total _ _ fun d => real_mul (fX _) (fW _)
  choose l hl using hl
  have hw : ∀ u : Fin 16384, wt X W t u.val = Ideal.exp (l u : EReal) := fun u => by
    rw [wt, dif_pos u.isLt, ← hl, refLogits_at]
  obtain ⟨M, hM⟩ := real_max Finset.univ Finset.univ_nonempty l
  have hm : rowMax (refLogits X W) t = (M : EReal) := by
    rw [rowMax, ofBits_bot, ← hM]
    simp only [hl]
  rw [outV_at m X W hX hW, refSoft_at, hm, Finset.sum_range, hw]
  simp only [hl, hw]
  exact (soft_eq l M v).symm

end Softmax
-- ==== Proof.lean ====
/-
  The certificate's claim, from the run of the kernel (Proof/Launch.lean), the reference's run
  (Proof/Gen/ReferenceIdeal/Run.lean) and the equation between their results (Proof/Algebraic.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Algebraic

@[expose] public section

noncomputable section

namespace Cert.Proof

open Idealize.ShloMosaic Idealize.ShloMosaic.TcCoe Idealize.SL.Sem Softmax

instance : Cert.Pre_finite_KernelIdeal.Facts := ⟨by decide, by decide⟩
instance : Cert.Pre_finite_ReferenceIdeal.Facts := ⟨by decide, by decide⟩

/-! ## The frames -/

/-- The two printed programs have one body. -/
theorem bodies_eq : Cert.Kernel.defs₀ (F := Bits) = Cert.KernelIdeal.defs₀ := by
  refine congrArg Defs.onTc (funext fun l => funext fun a => ?_)
  obtain rfl : l = 0 := Subsingleton.elim _ _
  obtain ⟨t, s⟩ := a
  rfl

theorem defs_eq : Cert.Kernel.defs (F := Bits) = Cert.KernelIdeal.defs :=
  congrArg (Pipeline.defs (Cert.KernelIdeal.pcfgs (F := Bits))) bodies_eq

/-- The kernel on bit patterns: the same program as the one read over the extended reals. -/
theorem frame_kernel : Cert.quiescent_Kernel := fun m ρ _ => by
  have h : ∀ D, D = Cert.KernelIdeal.defs (F := Bits) → θ_run D (onTc (τ := Cert.KernelIdeal.τ) (Cert.KernelIdeal.main (F := Bits))) (Softmax.s₀ m ρ) _ := fun D e => e ▸ (θ_run Cert.KernelIdeal.defs _ _).mono (fun r (h : QC m r) =>
    (⟨fun c => ⟨(h.1 c).1, (h.1 c).2.1⟩, h.2⟩ :
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0)) (run_main (F := Bits) m ρ)
  exact h _ defs_eq

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_ideal_pre : Cert.quiescent_KernelIdeal_pre_finite_KernelIdeal := fun m ρ _ =>
  (θ_run Cert.KernelIdeal.defs _ _).mono (fun _ h => ⟨fun c => ⟨(h.1 c).1, (h.1 c).2.1⟩, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- A value whose magnitude is below infinity is a real. -/
theorem real_of_abs {a : EReal} (h : Ideal.cmp .olt (max a (-a)) ⊤ = 1#1) : ∃ r : ℝ, a = r := by
  induction a with
  | bot => simp [Ideal.cmp] at h
  | top => simp [Ideal.cmp] at h
  | coe r => exact ⟨r, rfl⟩

/-- The precondition says that every element of both arrays is a real. -/
theorem finite_of_pre (x : FVec Ideal (⟨2, ![2048, 4096]⟩ : Shape) .f32) (w : FVec Ideal (⟨2, ![4096, 8192]⟩ : Shape) .f32)
    (h : (Cert.Pre_finite_KernelIdeal.fn (F := Ideal) x w).1 = (fun _ => 1#1) ∧ (Cert.Pre_finite_KernelIdeal.fn (F := Ideal) x w).2 = (fun _ => 1#1)) :
    (∀ i, ∃ r : ℝ, x i = (r : EReal)) ∧ ∀ i, ∃ r : ℝ, w i = (r : EReal) := by
  refine ⟨fun i => real_of_abs ?_, fun i => real_of_abs ?_⟩
  · rw [← ofBits_top]
    exact congrFun h.1 i
  · rw [← ofBits_top]
    exact congrFun h.2 i

/-- Device `c`'s block of W, at an element: a column of the whole. -/
theorem block_at (W : (⟨2, ![4096, 16384]⟩ : Shape).Idx → EReal) (c : Dev Cert.KernelIdeal.nD) (d : Fin 4096) (u : Fin 8192) :
    Layout.blockN ⟨2, ![4096, 8192]⟩ ⟨2, ![4096, 16384]⟩ (Layout.meshBlock [2, 2, 2] ![[], [0]] c) W (by decide) (ix2 d u)
      = W (ix2 d ⟨8192 * (place c).val + u.val, col_lt c u⟩) := by
  rw [Layout.blockN_apply]
  refine congrArg W (funext fun a => Fin.ext ?_)
  have hp : ((Layout.meshBlock [2, 2, 2] ![[], [0]] c : (b : Fin 2) → Fin _) 1).val = (place c).val := by
    revert c; decide
  fin_cases a
  · refine (Layout.TilesN.idx_val ..).trans ?_
    show 0 * 4096 + d.val = d.val
    omega
  · refine (Layout.TilesN.idx_val ..).trans ?_
    show ((Layout.meshBlock [2, 2, 2] ![[], [0]] c : (b : Fin 2) → Fin _) 1).val * 8192 + u.val = 8192 * (place c).val + u.val
    rw [hp, Nat.mul_comm]

/-- Every element of W stands in the block of the device at its half's place on the axis. -/
theorem finite_whole (W : (⟨2, ![4096, 16384]⟩ : Shape).Idx → EReal)
    (h : ∀ (c : Dev Cert.KernelIdeal.nD) (d : Fin 4096) (u : Fin 8192), ∃ r : ℝ, W (ix2 d ⟨8192 * (place c).val + u.val, col_lt c u⟩) = r) :
    ∀ i, ∃ r : ℝ, W i = r := by
  intro i
  obtain ⟨d, v, rfl⟩ : ∃ (d : Fin 4096) (v : Fin 16384), i = ix2 d v := ⟨i 0, i 1, eq_ix2 i⟩
  have hv := v.isLt
  obtain ⟨r, hr⟩ := h ⟨4 * (v.val / 8192), by show _ < 8; omega⟩ d ⟨v.val % 8192, Nat.mod_lt _ (by decide)⟩
  refine ⟨r, (congrArg (fun z => W (ix2 d z)) (Fin.ext ?_)).trans hr⟩
  show v.val = 8192 * (4 * (v.val / 8192) / 4) + v.val % 8192
  omega

/-- The reference's two arrays. -/
abbrev wholeX (m' : (ℓ : Loc Cert.ReferenceIdeal.nD Cert.ReferenceIdeal.τ Cert.ReferenceIdeal.sig) → Buf (Elt Ideal) ℓ) :
    (⟨2, ![2048, 4096]⟩ : Shape).Idx → EReal :=
  m' (((0 : Dev Cert.ReferenceIdeal.nD).tc : Thread Cert.ReferenceIdeal.nD Cert.ReferenceIdeal.τ).loc Cert.ReferenceIdeal.main_arg0)
abbrev wholeW (m' : (ℓ : Loc Cert.ReferenceIdeal.nD Cert.ReferenceIdeal.τ Cert.ReferenceIdeal.sig) → Buf (Elt Ideal) ℓ) :
    (⟨2, ![4096, 16384]⟩ : Shape).Idx → EReal :=
  m' (((0 : Dev Cert.ReferenceIdeal.nD).tc : Thread Cert.ReferenceIdeal.nD Cert.ReferenceIdeal.τ).loc Cert.ReferenceIdeal.main_arg1)

/-- The kernel's result is the reference's on every device, and both runs end with it. -/
theorem algebraic : Cert.algebraic_KernelIdeal_ReferenceIdeal_pre_finite_KernelIdeal := by
  intro m ρ m' ρ' hpre hagree
  have hX : ∀ c : Dev Cert.KernelIdeal.nD,
      m ((c.tc : Thread Cert.KernelIdeal.nD Cert.KernelIdeal.τ).loc Cert.KernelIdeal.main_arg0) = wholeX m' := fun c => (hagree c).1
  have hW : ∀ (c : Dev Cert.KernelIdeal.nD) (d : Fin 4096) (u : Fin 8192),
      m ((c.tc : Thread Cert.KernelIdeal.nD Cert.KernelIdeal.τ).loc Cert.KernelIdeal.main_arg1) (ix2 d u : (⟨2, ![4096, 8192]⟩ : Shape).Idx)
        = wholeW m' (ix2 d ⟨8192 * (place c).val + u.val, col_lt c u⟩) :=
    fun c d u => (congrFun (hagree c).2 (ix2 d u : (⟨2, ![4096, 8192]⟩ : Shape).Idx)).trans (block_at (wholeW m') c d u)
  have hfin := fun c => finite_of_pre _ _ (hpre c)
  have fX : ∀ i, ∃ r : ℝ, wholeX m' i = (r : EReal) := fun i => by
    obtain ⟨r, hr⟩ := (hfin (0 : Fin 8)).1 i
    exact ⟨r, (congrFun (hX (0 : Fin 8)) i).symm.trans hr⟩
  have fW : ∀ i, ∃ r : ℝ, wholeW m' i = (r : EReal) := finite_whole _ fun c d u => by
    obtain ⟨r, hr⟩ := (hfin c).2 (ix2 d u)
    exact ⟨r, (hW c d u).symm.trans hr⟩
  refine ⟨refSoft (refLogits (wholeX m') (wholeW m')), ?_, ?_⟩
  · exact (θ_run Cert.KernelIdeal.defs _ _).mono
      (fun _ h c => ⟨(h.1 c).2.2.trans (value_eq _ _ m hX hW fX fW c), (h.1 c).1, (h.1 c).2.1⟩) (run_main (F := Ideal) m ρ)
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts, inferInstance, inferInstance,
    frame_kernel, frame_ideal, frame_ideal_pre, frame_reference, frame_reference_pre, trivial, algebraic⟩

end Cert.Proof

end
